-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lens_in_range [hPre_lens_in_range : Cert.Pre_lens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_in_range [hPre_lens_in_range : Cert.Pre_lens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_lens_in_range [hKernelIdeal : Cert.KernelIdeal.Facts] [hPre_lens_in_range : Cert.Pre_lens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lens_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_lens_in_range [hReferenceIdeal : Cert.ReferenceIdeal.Facts] [hPre_lens_in_range : Cert.Pre_lens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log_step" .f32 0xBE135D8E#32 (((-(Real.log 10000)) * 64⁻¹ : ℝ) : EReal)

def algebraic_KernelIdeal_ReferenceIdeal_pre_lens_in_range [hKernelIdeal : Cert.KernelIdeal.Facts] [hReferenceIdeal : Cert.ReferenceIdeal.Facts] [hPre_lens_in_range : Cert.Pre_lens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lens_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_lens_in_range : Cert.Pre_lens_in_range.Facts),
    quiescent_Kernel (hKernel := hKernel)
    ∧ quiescent_KernelIdeal (hKernelIdeal := hKernelIdeal)
    ∧ quiescent_KernelIdeal_pre_lens_in_range (hKernelIdeal := hKernelIdeal) (hPre_lens_in_range := hPre_lens_in_range)
    ∧ quiescent_ReferenceIdeal (hReferenceIdeal := hReferenceIdeal)
    ∧ quiescent_ReferenceIdeal_pre_lens_in_range (hReferenceIdeal := hReferenceIdeal) (hPre_lens_in_range := hPre_lens_in_range)
    ∧ preserves_Kernel_KernelIdeal
    ∧ algebraic_KernelIdeal_ReferenceIdeal_pre_lens_in_range (hKernelIdeal := hKernelIdeal) (hReferenceIdeal := hReferenceIdeal) (hPre_lens_in_range := hPre_lens_in_range)
-- ==== Pre_lens_in_range.lean ====
abbrev S8x16x64x512 : Shape := ⟨4, ![8, 16, 64, 512]⟩
abbrev S8x16 : Shape := ⟨2, ![8, 16]⟩
abbrev S256x512 : Shape := ⟨2, ![256, 512]⟩
abbrev S256 : Shape := ⟨1, ![256]⟩
abbrev S_ : Shape := ⟨0, ![]⟩

class Facts : Prop where
  bcast_S_S8x16 : S_.BroadcastsInDim S8x16 (![] : Fin 0 → Fin S8x16.rank)
  reducesTo_S8x16_S_d0_1 : S8x16.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S8x16x64x512 .f32) (main_arg1 : IVec S8x16 32) (main_arg2 : FVec F S256x512 .f32) (main_arg3 : FVec F S256 .f32) : IVec S_ 1 :=
  let main_c : IVec S_ 32 := constantI S_ 32 0#32
  let main_v0 : IVec S8x16 32 := broadcastInDim S8x16 ![] bcast_S_S8x16 main_c
  let main_v1 : IVec S8x16 1 := cmpi .sge main_arg1 main_v0
  let main_c_0 : IVec S_ 32 := constantI S_ 32 64#32
  let main_v2 : IVec S8x16 32 := broadcastInDim S8x16 ![] bcast_S_S8x16 main_c_0
  let main_v3 : IVec S8x16 1 := cmpi .sle main_arg1 main_v2
  let main_v4 : IVec S8x16 1 := andi main_v1 main_v3
  let main_c_1 : IVec S_ 1 := constantI S_ 1 1#1
  let main_v5 : IVec S_ 1 := (fun x v => Host.reduce IntOp.andi x v reducesTo_S8x16_S_d0_1 h_S_) main_v4 main_c_1
  let main_cst : FVec F S_ .f32 := constant S_ .f32 0x00000000#32
  let main_v6 : FVec F S256 .f32 := broadcastInDim S256 ![] bcast_S_S256 main_cst
  let main_v7 : IVec S256 1 := cmpf .oeq main_arg3 main_v6
  let main_c_2 : IVec S_ 1 := constantI S_ 1 1#1
  let main_v8 : IVec S_ 1 := (fun x v => Host.reduce IntOp.andi x v reducesTo_S256_S_d0 h_S_) main_v7 main_c_2
  let main_c_3 : IVec S_ 32 := constantI S_ 32 64#32
  let main_v9 : IVec S8x16 32 := broadcastInDim S8x16 ![] bcast_S_S8x16 main_c_3
  let main_v10 : IVec S8x16 1 := cmpi .eq main_arg1 main_v9
  let main_c_4 : IVec S_ 1 := constantI S_ 1 1#1
  let main_v11 : IVec S_ 1 := (fun x v => Host.reduce IntOp.andi x v reducesTo_S8x16_S_d0_1 h_S_) main_v10 main_c_4
  let main_v12 : IVec S_ 1 := ori main_v8 main_v11
  let main_v13 : IVec S_ 1 := andi main_v5 main_v12
  main_v13
-- ==== Kernel.lean ====
abbrev S8x16x64x512 : Shape := ⟨4, ![8, 16, 64, 512]⟩
abbrev S8x16 : Shape := ⟨2, ![8, 16]⟩
abbrev S256x512 : Shape := ⟨2, ![256, 512]⟩
abbrev S256 : Shape := ⟨1, ![256]⟩
abbrev S8x1024x512 : Shape := ⟨3, ![8, 1024, 512]⟩
abbrev S1x256 : Shape := ⟨2, ![1, 256]⟩
abbrev S8x1024x256 : Shape := ⟨3, ![8, 1024, 256]⟩
abbrev S8x1x1024 : Shape := ⟨3, ![8, 1, 1024]⟩
abbrev S8x1024x1024 : Shape := ⟨3, ![8, 1024, 1024]⟩
abbrev S1x1024x512 : Shape := ⟨3, ![1, 1024, 512]⟩
abbrev S1x1024x256 : Shape := ⟨3, ![1, 1024, 256]⟩
abbrev S1x1x1024 : Shape := ⟨3, ![1, 1, 1024]⟩
abbrev S1x1024x1024 : Shape := ⟨3, ![1, 1024, 1024]⟩
abbrev S1024x256 : Shape := ⟨2, ![1024, 256]⟩
abbrev S1024x512 : Shape := ⟨2, ![1024, 512]⟩
abbrev S64x256 : Shape := ⟨2, ![64, 256]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1x64 : Shape := ⟨2, ![1, 64]⟩
abbrev S1024x64 : Shape := ⟨2, ![1024, 64]⟩
abbrev S_ : Shape := ⟨0, ![]⟩
abbrev S8x1024 : Shape := ⟨2, ![8, 1024]⟩
abbrev S16 : Shape := ⟨1, ![16]⟩
abbrev S1x16 : Shape := ⟨2, ![1, 16]⟩
abbrev S1 : Shape := ⟨1, ![1]⟩

abbrev nBuf : Table → Nat
  | .hbm => 20
  | .local .tc .vmem => 13
  | .local .tc .smem => 1
  | .local .scVector .vmem => 2
  | _ => 0

abbrev bufTy : (tb : Table) → Fin (nBuf tb) → BufTy
  | .hbm, ⟨0, _⟩ => ⟨S8x16x64x512, .f32⟩
  | .hbm, ⟨1, _⟩ => ⟨S8x16, .i32⟩
  | .hbm, ⟨2, _⟩ => ⟨S256x512, .f32⟩
  | .hbm, ⟨3, _⟩ => ⟨S256, .f32⟩
  | .hbm, ⟨4, _⟩ => ⟨S8x1024x512, .f32⟩
  | .hbm, ⟨5, _⟩ => ⟨S1x256, .f32⟩
  | .hbm, ⟨6, _⟩ => ⟨S8x1024x256, .f32⟩
  | .hbm, ⟨7, _⟩ => ⟨S8x1024x256, .f32⟩
  | .hbm, ⟨8, _⟩ => ⟨S8x1x1024, .i32⟩
  | .hbm, ⟨9, _⟩ => ⟨S8x1024x1024, .i32⟩
  | .hbm, ⟨10, _⟩ => ⟨S_, .i32⟩
  | .hbm, ⟨11, _⟩ => ⟨S8x1x1024, .i32⟩
  | .hbm, ⟨12, _⟩ => ⟨S8x1x1024, .i1⟩
  | .hbm, ⟨13, _⟩ => ⟨S8x1x1024, .i1⟩
  | .hbm, ⟨14, _⟩ => ⟨S_, .i32⟩
  | .hbm, ⟨15, _⟩ => ⟨S8x1024x1024, .i32⟩
  | .hbm, ⟨16, _⟩ => ⟨S8x1024x1024, .i1⟩
  | .hbm, ⟨17, _⟩ => ⟨S8x1024x1024, .i1⟩
  | .hbm, ⟨18, _⟩ => ⟨S8x1024, .i32⟩
  | .hbm, ⟨19, _⟩ => ⟨S8x1024, .i1⟩
  | .local .tc .vmem, ⟨0, _⟩ => ⟨S1x1024x512, .f32⟩
  | .local .tc .vmem, ⟨1, _⟩ => ⟨S1x1024x512, .f32⟩
  | .local .tc .vmem, ⟨2, _⟩ => ⟨S256x512, .f32⟩
  | .local .tc .vmem, ⟨3, _⟩ => ⟨S1x256, .f32⟩
  | .local .tc .vmem, ⟨4, _⟩ => ⟨S1x1024x256, .f32⟩
  | .local .tc .vmem, ⟨5, _⟩ => ⟨S1x1024x256, .f32⟩
  | .local .tc .vmem, ⟨6, _⟩ => ⟨S1x1024x256, .f32⟩
  | .local .tc .vmem, ⟨7, _⟩ => ⟨S1x1024x256, .f32⟩
  | .local .tc .vmem, ⟨8, _⟩ => ⟨S1x1x1024, .i32⟩
  | .local .tc .vmem, ⟨9, _⟩ => ⟨S1x1x1024, .i32⟩
  | .local .tc .vmem, ⟨10, _⟩ => ⟨S1x1024x1024, .i32⟩
  | .local .tc .vmem, ⟨11, _⟩ => ⟨S1x1024x1024, .i32⟩
  | .local .tc .vmem, ⟨12, _⟩ => ⟨S1024x256, .f32⟩
  | .local .tc .smem, ⟨0, _⟩ => ⟨S8x16, .i32⟩
  | .local .scVector .vmem, ⟨0, _⟩ => ⟨S16, .i32⟩
  | .local .scVector .vmem, ⟨1, _⟩ => ⟨S256, .i32⟩
  | _, _ => ⟨S8x16x64x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_arg1_scv : Ref sig .scVector := ⟨.hbm, 1, rfl⟩
abbrev main_v9_scv : Ref sig .scVector := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_stg0_0 : Ref sig .tc := ⟨.smem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v64 : Index := Scalar.indexCast arg0
  let c0_19 : Index := 0#32
  ![v64.toNat, 0]
def k0_off2 (i : grid0.Coords) : Fin 2 → Nat :=
  let arg0 : BitVec 32 := BitVec.ofNat 32 (i 0).val
  let v67 : Index := Scalar.indexCast arg0
  let c1 : Index := 1#32
  ![v67.toNat, 1]
def k0_off3 (i : grid0.Coords) : Fin 2 → Nat :=
  let arg0 : BitVec 32 := BitVec.ofNat 32 (i 0).val
  let v70 : Index := Scalar.indexCast arg0
  let c2 : Index := 2#32
  ![v70.toNat, 2]
def k0_off4 (i : grid0.Coords) : Fin 2 → Nat :=
  let arg0 : BitVec 32 := BitVec.ofNat 32 (i 0).val
  let v73 : Index := Scalar.indexCast arg0
  let c3 : Index := 3#32
  ![v73.toNat, 3]
def k0_off5 (i : grid0.Coords) : Fin 2 → Nat :=
  let arg0 : BitVec 32 := BitVec.ofNat 32 (i 0).val
  let v76 : Index := Scalar.indexCast arg0
  let c4 : Index := 4#32
  ![v76.toNat, 4]
def k0_off6 (i : grid0.Coords) : Fin 2 → Nat :=
  let arg0 : BitVec 32 := BitVec.ofNat 32 (i 0).val
  let v79 : Index := Scalar.indexCast arg0
  let c5 : Index := 5#32
  ![v79.toNat, 5]
def k0_off7 (i : grid0.Coords) : Fin 2 → Nat :=
  let arg0 : BitVec 32 := BitVec.ofNat 32 (i 0).val
  let v82 : Index := Scalar.indexCast arg0
  let c6 : Index := 6#32
  ![v82.toNat, 6]
def k0_off8 (i : grid0.Coords) : Fin 2 → Nat :=
  let arg0 : BitVec 32 := BitVec.ofNat 32 (i 0).val
  let v85 : Index := Scalar.indexCast arg0
  let c7 : Index := 7#32
  ![v85.toNat, 7]
def k0_off9 (i : grid0.Coords) : Fin 2 → Nat :=
  let arg0 : BitVec 32 := BitVec.ofNat 32 (i 0).val
  let v88 : Index := Scalar.indexCast arg0
  let c8 : Index := 8#32
  ![v88.toNat, 8]
def k0_off10 (i : grid0.Coords) : Fin 2 → Nat :=
  let arg0 : BitVec 32 := BitVec.ofNat 32 (i 0).val
  let v91 : Index := Scalar.indexCast arg0
  let c9 : Index := 9#32
  ![v91.toNat, 9]
def k0_off11 (i : grid0.Coords) : Fin 2 → Nat :=
  let arg0 : BitVec 32 := BitVec.ofNat 32 (i 0).val
  let v94 : Index := Scalar.indexCast arg0
  let c10 : Index := 10#32
  ![v94.toNat, 10]
def k0_off12 (i : grid0.Coords) : Fin 2 → Nat :=
  let arg0 : BitVec 32 := BitVec.ofNat 32 (i 0).val
  let v97 : Index := Scalar.indexCast arg0
  let c11 : Index := 11#32
  ![v97.toNat, 11]
def k0_off13 (i : grid0.Coords) : Fin 2 → Nat :=
  let arg0 : BitVec 32 := BitVec.ofNat 32 (i 0).val
  let v100 : Index := Scalar.indexCast arg0
  let c12 : Index := 12#32
  ![v100.toNat, 12]
def k0_off14 (i : grid0.Coords) : Fin 2 → Nat :=
  let arg0 : BitVec 32 := BitVec.ofNat 32 (i 0).val
  let v103 : Index := Scalar.indexCast arg0
  let c13 : Index := 13#32
  ![v103.toNat, 13]
def k0_off15 (i : grid0.Coords) : Fin 2 → Nat :=
  let arg0 : BitVec 32 := BitVec.ofNat 32 (i 0).val
  let v106 : Index := Scalar.indexCast arg0
  let c14 : Index := 14#32
  ![v106.toNat, 14]
def k0_off16 (i : grid0.Coords) : Fin 2 → Nat :=
  let arg0 : BitVec 32 := BitVec.ofNat 32 (i 0).val
  let v109 : Index := Scalar.indexCast arg0
  let c15 : Index := 15#32
  ![v109.toNat, 15]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_284_r0 : BitVec 32 := 0#32
  ![v18.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v29.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "log_step" => some (((-(Real.log 10000)) * 64⁻¹ : ℝ) : EReal)
  | _ => none
-- ==== ReferenceIdeal.lean ====
abbrev S8x16x64x512 : Shape := ⟨4, ![8, 16, 64, 512]⟩
abbrev S8x16 : Shape := ⟨2, ![8, 16]⟩
abbrev S256x512 : Shape := ⟨2, ![256, 512]⟩
abbrev S256 : Shape := ⟨1, ![256]⟩
abbrev S64 : Shape := ⟨1, ![64]⟩
abbrev S1x1x64 : Shape := ⟨3, ![1, 1, 64]⟩
abbrev S8x16x1 : Shape := ⟨3, ![8, 16, 1]⟩
abbrev S8x16x64 : Shape := ⟨3, ![8, 16, 64]⟩
abbrev S8x1024 : Shape := ⟨2, ![8, 1024]⟩
abbrev S_ : Shape := ⟨0, ![]⟩
abbrev S8 : Shape := ⟨1, ![8]⟩
abbrev S8x1024x512 : Shape := ⟨3, ![8, 1024, 512]⟩
abbrev S16 : Shape := ⟨1, ![16]⟩
abbrev S16x1 : Shape := ⟨2, ![16, 1]⟩
abbrev S16x64 : Shape := ⟨2, ![16, 64]⟩
abbrev S1024 : Shape := ⟨1, ![1024]⟩
abbrev S1x64 : Shape := ⟨2, ![1, 64]⟩
abbrev S8x1024x1 : Shape := ⟨3, ![8, 1024, 1]⟩
abbrev S1 : Shape := ⟨1, ![1]⟩
abbrev S1x1x1 : Shape := ⟨3, ![1, 1, 1]⟩
abbrev S1x1024 : Shape := ⟨2, ![1, 1024]⟩
abbrev S8x1 : Shape := ⟨2, ![8, 1]⟩
abbrev S1024x1024 : Shape := ⟨2, ![1024, 1024]⟩
abbrev S1x1024x1024 : Shape := ⟨3, ![1, 1024, 1024]⟩
abbrev S8x1024x1024 : Shape := ⟨3, ![8, 1024, 1024]⟩
abbrev S8x1x1024 : Shape := ⟨3, ![8, 1, 1024]⟩
abbrev S512x256 : Shape := ⟨2, ![512, 256]⟩
abbrev S8x1024x256 : Shape := ⟨3, ![8, 1024, 256]⟩
abbrev S1x1x256 : Shape := ⟨3, ![1, 1, 256]⟩
abbrev S128 : Shape := ⟨1, ![128]⟩
abbrev S1x1x128 : Shape := ⟨3, ![1, 1, 128]⟩
abbrev S8x1024x128 : Shape := ⟨3, ![8, 1024, 128]⟩
abbrev S8x1024x128x1 : Shape := ⟨4, ![8, 1024, 128, 1]⟩
abbrev S8x1024x128x2 : Shape := ⟨4, ![8, 1024, 128, 2]⟩

abbrev nBuf : Space → Nat
  | .hbm => 141
  | .vmem => 0
  | .smem => 0
  | _ => 0

abbrev hbmTy0_0 (i : Nat) : BufTy := match i % 128 with
  | 0 => ⟨S8x16x64x512, .f32⟩
  | 1 => ⟨S8x16, .i32⟩
  | 2 => ⟨S256x512, .f32⟩
  | 3 => ⟨S256, .f32⟩
  | 4 => ⟨S64, .i32⟩
  | 5 => ⟨S1x1x64, .i32⟩
  | 6 => ⟨S8x16x1, .i32⟩
  | 7 => ⟨S8x16x64, .i32⟩
  | 8 => ⟨S8x16x64, .i32⟩
  | 9 => ⟨S8x16x64, .i1⟩
  | 10 => ⟨S8x1024, .i1⟩
  | 11 => ⟨S8x1024, .i32⟩
  | 12 => ⟨S_, .i32⟩
  | 13 => ⟨S8, .i32⟩
  | 14 => ⟨S8x1024, .i1⟩
  | 15 => ⟨S8x1024, .i32⟩
  | 16 => ⟨S8x1024, .i1⟩
  | 17 => ⟨S8x1024, .i32⟩
  | 18 => ⟨S8x1024x512, .f32⟩
  | 19 => ⟨S16, .i32⟩
  | 20 => ⟨S16x1, .i32⟩
  | 21 => ⟨S16x64, .i32⟩
  | 22 => ⟨S1024, .i32⟩
  | 23 => ⟨S64, .i32⟩
  | 24 => ⟨S1x64, .i32⟩
  | 25 => ⟨S16x64, .i32⟩
  | 26 => ⟨S1024, .i32⟩
  | 27 => ⟨S8x1024x1, .i32⟩
  | 28 => ⟨S_, .i32⟩
  | 29 => ⟨S8x1024x1, .i32⟩
  | 30 => ⟨S8x1024x1, .i1⟩
  | 31 => ⟨S_, .i32⟩
  | 32 => ⟨S8x1024x1, .i32⟩
  | 33 => ⟨S8x1024x1, .i32⟩
  | 34 => ⟨S8x1024x1, .i32⟩
  | 35 => ⟨S1, .i32⟩
  | 36 => ⟨S_, .i32⟩
  | 37 => ⟨S8x1024x1, .i32⟩
  | 38 => ⟨S8x1024x1, .i1⟩
  | 39 => ⟨S1x1x1, .i32⟩
  | 40 => ⟨S8x1024x1, .i32⟩
  | 41 => ⟨S8x1024x1, .i1⟩
  | 42 => ⟨S8x1024x1, .i1⟩
  | 43 => ⟨S_, .i1⟩
  | 44 => ⟨S8x1024, .i1⟩
  | 45 => ⟨S8x1024x512, .f32⟩
  | 46 => ⟨S8x1024x512, .i1⟩
  | 47 => ⟨S_, .f32⟩
  | 48 => ⟨S8x1024x512, .f32⟩
  | 49 => ⟨S8x1024x512, .f32⟩
  | 50 => ⟨S_, .i32⟩
  | 51 => ⟨S8x1024, .i32⟩
  | 52 => ⟨S8x1024, .i1⟩
  | 53 => ⟨S_, .i32⟩
  | 54 => ⟨S8x1024, .i32⟩
  | 55 => ⟨S8x1024, .i32⟩
  | 56 => ⟨S8x1024, .i32⟩
  | 57 => ⟨S8x1024x1, .i32⟩
  | 58 => ⟨S8x1024, .i32⟩
  | 59 => ⟨S_, .i32⟩
  | 60 => ⟨S8x1024, .i32⟩
  | 61 => ⟨S8x1024, .i1⟩
  | 62 => ⟨S_, .i32⟩
  | 63 => ⟨S8x1024, .i32⟩
  | 64 => ⟨S8x1024, .i32⟩
  | 65 => ⟨S8x1024, .i32⟩
  | 66 => ⟨S8x1024x1, .i32⟩
  | 67 => ⟨S8x1024, .i32⟩
  | 68 => ⟨S1024, .i32⟩
  | 69 => ⟨S1x1024, .i32⟩
  | 70 => ⟨S8x1, .i32⟩
  | 71 => ⟨S8x1024, .i32⟩
  | 72 => ⟨S8x1024, .i32⟩
  | 73 => ⟨S8x1024, .i1⟩
  | 74 => ⟨S8x1024x1, .i1⟩
  | 75 => ⟨S_, .f32⟩
  | 76 => ⟨S_, .f32⟩
  | 77 => ⟨S8x1024x512, .i1⟩
  | 78 => ⟨S8x1024x512, .f32⟩
  | 79 => ⟨S8x1024x512, .f32⟩
  | 80 => ⟨S_, .i32⟩
  | 81 => ⟨S_, .i32⟩
  | 82 => ⟨S8x1024, .i32⟩
  | 83 => ⟨S8x1024, .i32⟩
  | 84 => ⟨S_, .i32⟩
  | 85 => ⟨S_, .i32⟩
  | 86 => ⟨S8x1024, .i32⟩
  | 87 => ⟨S8x1024, .i32⟩
  | 88 => ⟨S8x1024, .i1⟩
  | 89 => ⟨S1024x1024, .i32⟩
  | 90 => ⟨S1024x1024, .i32⟩
  | 91 => ⟨S_, .i32⟩
  | 92 => ⟨S1024x1024, .i32⟩
  | 93 => ⟨S1024x1024, .i32⟩
  | 94 => ⟨S1024x1024, .i1⟩
  | 95 => ⟨S1024x1024, .i1⟩
  | 96 => ⟨S1x1024x1024, .i1⟩
  | 97 => ⟨S8x1024x1024, .i1⟩
  | 98 => ⟨S8x1024x1, .i32⟩
  | 99 => ⟨S8x1x1024, .i32⟩
  | 100 => ⟨S8x1024x1024, .i32⟩
  | 101 => ⟨S8x1024x1024, .i32⟩
  | 102 => ⟨S8x1024x1024, .i1⟩
  | 103 => ⟨S8x1024x1, .i1⟩
  | 104 => ⟨S8x1x1024, .i1⟩
  | 105 => ⟨S8x1024x1024, .i1⟩
  | 106 => ⟨S8x1024x1024, .i1⟩
  | 107 => ⟨S8x1024x1024, .i1⟩
  | 108 => ⟨S8x1024x1024, .i1⟩
  | 109 => ⟨S8x1024x1024, .i1⟩
  | 110 => ⟨S512x256, .f32⟩
  | 111 => ⟨S8x1024x256, .f32⟩
  | 112 => ⟨S1x1x256, .f32⟩
  | 113 => ⟨S8x1024x256, .f32⟩
  | 114 => ⟨S8x1024x256, .f32⟩
  | 115 => ⟨S8x1024x1, .i32⟩
  | 116 => ⟨S8x1024x1, .f32⟩
  | 117 => ⟨S128, .f32⟩
  | 118 => ⟨S_, .f32⟩
  | 119 => ⟨S128, .f32⟩
  | 120 => ⟨S128, .f32⟩
  | 121 => ⟨S128, .f32⟩
  | 122 => ⟨S_, .f32⟩
  | 123 => ⟨S128, .f32⟩
  | 124 => ⟨S128, .f32⟩
  | 125 => ⟨S_, .f32⟩
  | 126 => ⟨S128, .f32⟩
  | 127 => ⟨S128, .f32⟩
  | _ => ⟨S8x16x64x512, .f32⟩

abbrev hbmTy0_1 (i : Nat) : BufTy := match i % 128 with
  | 0 => ⟨S_, .f32⟩
  | 1 => ⟨S128, .f32⟩
  | 2 => ⟨S128, .f32⟩
  | 3 => ⟨S1x1x128, .f32⟩
  | 4 => ⟨S8x1024x128, .f32⟩
  | 5 => ⟨S8x1024x128, .f32⟩
  | 6 => ⟨S8x1024x128, .f32⟩
  | 7 => ⟨S8x1024x128, .f32⟩
  | 8 => ⟨S8x1024x128, .f32⟩
  | 9 => ⟨S8x1024x128x1, .f32⟩
  | 10 => ⟨S8x1024x128x1, .f32⟩
  | 11 => ⟨S8x1024x128x2, .f32⟩
  | 12 => ⟨S8x1024x256, .f32⟩
  | _ => ⟨S8x16x64x512, .f32⟩

abbrev hbmTy (i : Nat) : BufTy := match i / 128 with
  | 0 => hbmTy0_0 i
  | 1 => hbmTy0_1 i
  | _ => ⟨S8x16x64x512, .f32⟩

abbrev bufTy : (tb : Table) → Fin (tcTables nBuf tb) → BufTy
  | .hbm, ⟨i, _⟩ => hbmTy i
  | _, _ => ⟨S8x16x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_c_2 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_c_3 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v21 : Ref sig .tc := ⟨.hbm, 49, rfl⟩
abbrev main_c_0 : Ref sig .tc := ⟨.hbm, 50, rfl⟩
abbrev main_v22 : Ref sig .tc := ⟨.hbm, 51, rfl⟩
abbrev main_v23 : Ref sig .tc := ⟨.hbm, 52, rfl⟩
abbrev main_c_1 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_2 : Ref sig .tc := ⟨.hbm, 59, rfl⟩
abbrev main_v29 : Ref sig .tc := ⟨.hbm, 60, rfl⟩
abbrev main_v30 : Ref sig .tc := ⟨.hbm, 61, rfl⟩
abbrev main_c_3 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v43 : Ref sig .tc := ⟨.hbm, 79, rfl⟩
abbrev main_c_4 : Ref sig .tc := ⟨.hbm, 80, rfl⟩
abbrev main_call3_v0 : Ref sig .tc := ⟨.hbm, 81, rfl⟩
abbrev main_call3_v1 : Ref sig .tc := ⟨.hbm, 82, rfl⟩
abbrev main_v44 : Ref sig .tc := ⟨.hbm, 83, rfl⟩
abbrev main_c_5 : Ref sig .tc := ⟨.hbm, 84, rfl⟩
abbrev main_call4_v0 : Ref sig .tc := ⟨.hbm, 85, rfl⟩
abbrev main_call4_v1 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_c_6 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_7 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_8 : Ref sig .tc := ⟨.hbm, 122, rfl⟩
abbrev main_v78 : Ref sig .tc := ⟨.hbm, 123, rfl⟩
abbrev main_v79 : Ref sig .tc := ⟨.hbm, 124, rfl⟩
abbrev main_cst_9 : Ref sig .tc := ⟨.hbm, 125, rfl⟩
abbrev main_v80 : Ref sig .tc := ⟨.hbm, 126, rfl⟩
abbrev main_v81 : Ref sig .tc := ⟨.hbm, 127, rfl⟩
abbrev main_cst_10 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩

abbrev nD : Nat := 1
abbrev τ : Topo := Topo.v7x

variable {F : FTy → Type} [FloatOps F]
-- ==== Proof.Words.lean ====
/-
  The integer words that both kernels of the program compute from one row of lengths: the running sums of the lengths,
  and the segment number of a position (how many of the running sums it has reached), with -1 past the total.
-/
module

public import Idealize.ShloMosaic.PureOps.Vector
public import Idealize.ShloMosaic.PureOps.ShapeOps

@[expose] public section

namespace Cert.Words

open Idealize.ShloMosaic

/-- The sum of the first `n` lengths, as a 32-bit word. -/
def starts (ln : Fin 16 → BitVec 32) : ℕ → BitVec 32
  | 0 => 0#32
  | n + 1 => IntOp.addi (starts ln n) (ln (Fin.ofNat 16 n))

/-- How many of `s 1, …, s n` the position `l` has reached. -/
def reached (s : ℕ → BitVec 32) (l : BitVec 32) : ℕ → BitVec 32
  | 0 => 0#32
  | n + 1 => Scalar.select (IntOp.cmpi .sge l (s (n + 1))) (IntOp.addi (reached s l n) 1#32) (reached s l n)

/-- The segment number of position `l`: how many segments begin at or before it after the first, or -1 when it lies past
    the last. -/
def capWord (s : ℕ → BitVec 32) (l : BitVec 32) : BitVec 32 :=
  Scalar.select (IntOp.cmpi .slt l (s 16)) (reached s l 15) 4294967295#32

end Cert.Words
-- ==== Proof.Ideal.Base.lean ====
/-
  The program as the launch theorem of a program with a SparseCore call sees it: its labels, its configuration, the
  body table of the TensorCore region, the launch semaphores' side conditions, and the resource algebra of the proof
  (the launch handshakes' rounds, the TensorCore pipeline's rounds, the local copies' counters).
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program below its SparseCore call. -/
abbrev ΛP : Labels := Pipeline.Sig Λ₀ (Fin 1) fun p => (pcfgs (F := F) p).Adm
/-- The SparseCore call's configuration. -/
abbrev K : SparseCore.Cfg τ sig (ΛP (F := F)) 1 := sc (F := F)
/-- The call runs on all sixteen tiles of a SparseCore. -/
theorem nSub_zero : (K (F := F)).nSub 0 = 16 := rfl
/-- The call runs on both SparseCores. -/
theorem nCore_zero : (K (F := F)).nCore 0 = 2 := rfl
/-- The body table below the SparseCore call: the kernels' and the TensorCore region's. -/
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds; -/
abbrev UH : Type := URounds (GSem nD τ sig) ℕ
/-- the TensorCore pipeline's; -/
abbrev UP : Type := URounds (GSem nD τ sig) Unit
/-- and the two beside the local copies' counters. -/
abbrev UU : Type := UH × (UP × Counters)

/-- The handshakes' rounds in the machine's algebra; -/
abbrev EH : Emb UH (MT nD τ sig (HIx 1) (Elt F) ℕ UU ℕ) := embL
/-- and the pipeline's. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

end Cert.KernelIdeal.Run

end
-- ==== Proof.Ideal.Tile.lean ====
/-
  One task of the SparseCore call: on the vector subcore with coordinates `L` the body copies its batch row of lengths,
  forms the running sums, and writes the segment numbers of its 256 positions.
-/
module

public import proofs.«01_k».proof.Proof.Ideal.Base
public import proofs.«01_k».proof.Proof.Words
public import Idealize.ShloMosaic.Lib.ValueLayout
public import Idealize.ShloMosaic.Lib.VecWindow
public import Idealize.ShloMosaic.Lib.Ring
public import Idealize.ShloMosaic.Lib.Pipeline.FrameBody

@[expose] public section

noncomputable section

namespace Cert.KernelIdeal.Run

open Cert.KernelIdeal Cert.KernelIdeal.Gen Cert.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- The array of lengths and the array of segment numbers of device `d`. -/
abbrev lLoc (d : Dev nD) : Loc nD τ sig := (SparseCore.T d).loc main_arg1
abbrev cLoc (d : Dev nD) : Loc nD τ sig := (SparseCore.T d).loc main_v9

abbrev lensV : Memref sig .scVector .hbm S8x16 .i32 := Memref.whole main_arg1_scv
abbrev capV : Memref sig .scVector .hbm S8x1024 .i32 := Memref.whole main_v9_scv
abbrev sV : Memref sig .scVector .vmem S16 .i32 := Memref.whole cc1_scratch0
abbrev rV : Memref sig .scVector .vmem S256 .i32 := Memref.whole cc1_scratch1

/-- The segment numbers of every batch row, from the lengths. -/
def capSpec (ln : S8x16.Idx → BitVec 32) : S8x1024.Idx → BitVec 32 := fun ix =>
  capWord (starts fun n => ln (ix2 (ix 0) n)) (BitVec.ofNat 32 (ix 1).val)

/-- The lengths, held at share `q`; and some places of the segment numbers, held in full. -/
abbrev lPts (d : Dev nD) (q : PosShare TreeShare) (ln : Buf (Elt F) (lLoc d)) : sProp 𝕄 := lLoc d ↦{q} ln
abbrev cPts (d : Dev nD) (I : Finset S8x1024.Idx) (f : Buf (Elt F) (cLoc d)) : sProp 𝕄 := cLoc d ↦[I]{fullShare} f

variable [FloatOps F] [Named F]

section Tile

variable (d : Dev nD) (L : grid1.Coords)

abbrev cV (L : grid1.Coords) : Fin τ.nSC := (L 0).castLE hcore1
abbrev jV (L : grid1.Coords) : Fin τ.nSub := (L 1).castLE hsub1

/-- The batch row of lengths, and the 256 positions, as the task addresses them. -/
abbrev lRowK (L : grid1.Coords) : Memref sig .scVector .hbm S16 .i32 :=
  ((lensV).slice (Rect.unit (s := S8x16) (k1_off1 L) S1x16.size (k1_off1_inb L)) (fun _ => rfl)).squeeze S16 squeezes_S1x16_S16
abbrev cRowK (L : grid1.Coords) : Memref sig .scVector .hbm S256 .i32 :=
  ((capV).slice (Rect.unit (s := S8x1024) (k1_off2 L) S1x256.size (k1_off2_inb L)) (fun _ => rfl)).squeeze S256 squeezes_S1x256_S256

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit [FloatOps F] [Named F] in
/-- The subcore's own counters: the two copies' and the rest. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩)]

omit [FloatOps F] [Named F] in
/-- The subcore's own buffers: the two scratch buffers, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] [Named F] in
/-- Where a task's part of the caption numbers begins. -/
theorem off2_eq : ∀ i : grid1.Coords, k1_off2 i = ![((i 1).val * 2 + (i 0).val) / 4, ((i 1).val * 2 + (i 0).val) % 4 * 256] := by decide +kernel
omit [FloatOps F] [Named F] in
/-- A task's row is one of eight. -/
theorem off2_row (L : grid1.Coords) : k1_off2 L 0 < 8 := by
  have h : k1_off2 L 0 + 1 ≤ 8 := k1_off2_inb L 0
  omega
omit [FloatOps F] [Named F] in
/-- A task's positions are among the 1024. -/
theorem off2_col (L : grid1.Coords) (n : Fin 256) : k1_off2 L 1 + n.val < 1024 := by
  have h : k1_off2 L 1 + 256 ≤ 1024 := k1_off2_inb L 1
  omega

omit [FloatOps F] [Named F] in
/-- Where the task's place `y` lies in the array of segment numbers. -/
theorem cRowK_emb (y : S256.Idx) :
    (cRowK L).view.emb y = (ix2 ⟨k1_off2 L 0, off2_row L⟩ ⟨k1_off2 L 1 + (y 0).val, off2_col L (y 0)⟩ : S8x1024.Idx) := by
  have e : (cRowK L).view.emb y = (Rect.unit (s := S8x1024) (k1_off2 L) S1x256.size (k1_off2_inb L)).emb
      (Shape.reshapeEquiv squeezes_S1x256_S256.numel_eq y) := rfl
  have hr : Shape.reshapeEquiv squeezes_S1x256_S256.numel_eq y = (ix2 (0 : Fin 1) (y 0) : S1x256.Idx) :=
    Shape.reshapeEquiv_eq_of_rowMajor _ (by
      rw [Shape.rowMajor_val_two, Shape.rowMajor_val_one]
      show 0 * 256 + (y 0).val = (y 0).val
      omega)
  rw [e, hr]
  funext a
  match a with
  | 0 => exact Fin.ext (by rw [Rect.emb_apply]; show k1_off2 L 0 + 1 * 0 = k1_off2 L 0; omega)
  | 1 => exact Fin.ext (by rw [Rect.emb_apply]; show k1_off2 L 1 + 1 * (y 0).val = k1_off2 L 1 + (y 0).val; omega)

omit [FloatOps F] [Named F] in
/-- Where the task's length `n` lies in the array of lengths. -/
theorem lRowK_emb (y : S16.Idx) : (lRowK L).view.emb y = (ix2 ⟨k1_off2 L 0, off2_row L⟩ (y 0) : S8x16.Idx) := by
  have e : (lRowK L).view.emb y = (Rect.unit (s := S8x16) (k1_off1 L) S1x16.size (k1_off1_inb L)).emb
      (Shape.reshapeEquiv squeezes_S1x16_S16.numel_eq y) := rfl
  have hr : Shape.reshapeEquiv squeezes_S1x16_S16.numel_eq y = (ix2 (0 : Fin 1) (y 0) : S1x16.Idx) :=
    Shape.reshapeEquiv_eq_of_rowMajor _ (by
      rw [Shape.rowMajor_val_two, Shape.rowMajor_val_one]
      show 0 * 16 + (y 0).val = (y 0).val
      omega)
  rw [e, hr]
  funext a
  match a with
  | 0 => exact Fin.ext (by rw [Rect.emb_apply]; show k1_off2 L 0 + 1 * 0 = k1_off2 L 0; omega)
  | 1 => exact Fin.ext (by rw [Rect.emb_apply]; show 0 + 1 * (y 0).val = (y 0).val; omega)

/-- Lane `n` of a vector of lengths, as the task extracts it. -/
def lane (v : IVec S16 32) (n : Fin 16) : BitVec 32 :=
  extractAt ![0] (extractStridedSlice S1 ![n.val] v ⟨rfl, fun a => by
    obtain rfl : a = 0 := Fin.fin_one_eq_zero a
    show n.val + 1 ≤ 16; omega⟩) inpos_S1_p0

omit [FloatOps F] [Named F] in
/-- A word drawn from a vector is the vector's entry. -/
theorem lane_eq (v : IVec S16 32) (n : Fin 16) : lane v n = v (ix1 n) := by
  unfold lane extractAt extractStridedSlice
  congr 1
  funext a
  obtain rfl : a = 0 := Fin.fin_one_eq_zero a
  exact Fin.ext (by show n.val + 0 = n.val; omega)

/-- One comparison of a chunk: the count goes up by one in the lanes where the comparison holds. -/
def bumpV (c : IVec S16 1) (r : IVec S16 32) : IVec S16 32 := select c (addi r (broadcast S16 1#32)) r

/-- The counts of a chunk of positions `l` after `n` comparisons with the running sums `s 1, …, s n`, each in all lanes; -/
def reachedV (s : ℕ → IVec S16 32) (l : IVec S16 32) : ℕ → IVec S16 32
  | 0 => broadcast S16 0#32
  | n + 1 => bumpV (cmpi .sge l (s (n + 1))) (reachedV s l n)

/-- and the chunk of segment numbers that is stored. -/
def capVec (s : ℕ → IVec S16 32) (l : IVec S16 32) : IVec S16 32 :=
  shapeCast S16 (select (cmpi .slt l (s 16)) (reachedV s l 15) (broadcast S16 4294967295#32)) shapeCasts_S16_S16

omit [FloatOps F] [Named F] in
/-- The vector count, lane by lane. -/
theorem reachedV_apply (s : ℕ → IVec S16 32) (s' : ℕ → BitVec 32) (hs : ∀ n, 1 ≤ n → n ≤ 16 → s n = broadcast S16 (s' n))
    (l : IVec S16 32) (x : S16.Idx) (n : ℕ) (hn : n ≤ 16) : reachedV s l n x = reached s' (l x) n := by
  induction n with
  | zero => rfl
  | succ n ih =>
    show Scalar.select (IntOp.cmpi .sge (l x) (s (n + 1) x)) (IntOp.addi (reachedV s l n x) 1#32) (reachedV s l n x) = _
    rw [ih (by omega), hs (n + 1) (by omega) hn]; rfl

omit [FloatOps F] [Named F] in
/-- The vector of caption numbers, lane by lane. -/
theorem capVec_apply (s : ℕ → IVec S16 32) (s' : ℕ → BitVec 32) (hs : ∀ n, 1 ≤ n → n ≤ 16 → s n = broadcast S16 (s' n))
    (l : IVec S16 32) (x : S16.Idx) : capVec s l x = capWord s' (l x) := by
  unfold capVec
  rw [shapeCast_apply _ _ x x rfl]
  show Scalar.select (IntOp.cmpi .slt (l x) (s 16 x)) (reachedV s l 15 x) 4294967295#32 = _
  rw [reachedV_apply s s' hs l x 15 (by omega), hs 16 (by omega) (by omega)]; rfl

/-- The positions of the chunk that begins at `o`. -/
def posV (b : BitVec 32) (o : ℕ) : IVec S16 32 :=
  addi (iota .scVector S16 32 [0] iota_S16_d0_w32_scVector) (broadcast S16 (Scalar.addi b (BitVec.ofNat 32 o)))

omit [FloatOps F] [Named F] in
/-- The vector of positions, lane by lane. -/
theorem posV_apply (b : BitVec 32) (o : ℕ) (x : S16.Idx) : posV b o x = BitVec.ofNat 32 (o + (x 0).val) + b := by
  show BitVec.ofNat 32 (0 * 16 + (x 0).val) + (b + BitVec.ofNat 32 o) = _
  rw [Nat.zero_mul, Nat.zero_add, BitVec.ofNat_add]
  ac_rfl

set_option maxHeartbeats 4000000 in
set_option maxRecDepth 16384 in
/-- The task on vector subcore `(L 0, L 1)` of device `d`: from a share `q` of the lengths `ln` and its own 256 places
    of the segment numbers, it leaves those places at the segment numbers of `ln`. -/
theorem tile_body (hF : (K (F := F)).Facts) (q : PosShare TreeShare) (ln : S8x16.Idx → BitVec 32) (f₀ : S8x1024.Idx → BitVec 32)
    (O : CellTallies nD τ sig (HIx 1)) (W : Waits sig (HIx 1)) (hO : ∀ g, O g none = 0) :
    iprop(levAts (K (F := F)).L (K (F := F)).lev ∗ emp
        ∗ (lPts (F := F) d q ln ∗ cPts (F := F) d (cRowK L).view.set f₀)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L lensV (Memref.isWhole_whole _) capV (Memref.isWhole_whole _)
            sV (Memref.isWhole_whole _) rV (Memref.isWhole_whole _) cc1_scoped0 cc1_scoped1)
          fun _ => iprop((lPts (F := F) d q ln ∗ cPts (F := F) d (cRowK L).view.set (capSpec ln))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  simp only [k1_part1_eq_skeleton, k1_part2_eq_skeleton, k1_part3_eq_skeleton, k1_part4_eq_skeleton, k1_part5_eq_skeleton, k1_part6_eq_skeleton,
    k1_part7_eq_skeleton, k1_part8_eq_skeleton, k1_part9_eq_skeleton, k1_part10_eq_skeleton, k1_part11_eq_skeleton, k1_part12_eq_skeleton,
    k1_part13_eq_skeleton, k1_part14_eq_skeleton, k1_part15_eq_skeleton, k1_part16_eq_skeleton, k1_part17_eq_skeleton, k1_part18_eq_skeleton,
    k1_part19_eq_skeleton, k1_part20_eq_skeleton, k1_part21_eq_skeleton, k1_part22_eq_skeleton, k1_part23_eq_skeleton, k1_part24_eq_skeleton,
    k1_part25_eq_skeleton, k1_part26_eq_skeleton]
  rw [(K (F := F)).scopedBufs_V hF d (cV L) (jV L), SparseCore.Cfg.scopedSems0_V (Val := Elt F) d (cV L) (jV L), ownSems0_V, ownBufs_V]
  iintro ⟨#Hlv, -, ⟨Hi, Ho⟩, ⟨⟨%fs, Hs⟩, ⟨%fr, Hr⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (Entails.of_eq (show ((V d (cV L) (jV L)).loc cc1_scratch0 ↦{fullShare} fs : sProp 𝕄) = (sV).view.loc (V d (cV L) (jV L)) ↦{fullShare} fs from rfl)) $$ Hs
  ihave Hr' := (Entails.of_eq (show ((V d (cV L) (jV L)).loc cc1_scratch1 ↦{fullShare} fr : sProp 𝕄) = (rV).view.loc (V d (cV L) (jV L)) ↦{fullShare} fr from rfl)) $$ Hr
  ihave Hi' := (Entails.of_eq (show lPts (F := F) d q ln = (lensV).view.loc (V d (cV L) (jV L)) ↦{q} ln from rfl)) $$ Hi
  ihave Ho' := (Entails.of_eq (show cPts (F := F) d (cRowK L).view.set f₀ = (cRowK L).view.loc (V d (cV L) (jV L)) ↦[(cRowK L).view.set]{fullShare} f₀ from rfl)) $$ Ho
  sl_exec
  sl_step
  have hval : ∀ y, tile_body.sl.dma33 d L ln fs fr y = capSpec ln ((cRowK L).view.emb y) := by
    intro y
    obtain ⟨sv, hsv⟩ : ∃ sv : ℕ → IVec S16 32, sv = fun n => match n with
      | 0 => broadcast S16 0#32
      | 1 => tile_body.sl.r_2 d L ln fs
      | 2 => tile_body.sl.r_3 d L ln fs
      | 3 => tile_body.sl.r_4 d L ln fs
      | 4 => tile_body.sl.r_5 d L ln fs
      | 5 => tile_body.sl.r_6 d L ln fs
      | 6 => tile_body.sl.r_8 d L ln fs
      | 7 => tile_body.sl.r_9 d L ln fs
      | 8 => tile_body.sl.r_10 d L ln fs
      | 9 => tile_body.sl.r_11 d L ln fs
      | 10 => tile_body.sl.r_12 d L ln fs
      | 11 => tile_body.sl.r_13 d L ln fs
      | 12 => tile_body.sl.r_14 d L ln fs
      | 13 => tile_body.sl.r_16 d L ln fs
      | 14 => tile_body.sl.r_17 d L ln fs
      | 15 => tile_body.sl.r_18 d L ln fs
      | _ => tile_body.sl.r_19 d L ln fs := ⟨_, rfl⟩
    have hs : ∀ n, 1 ≤ n → n ≤ 16 → sv n = broadcast S16 (starts (lane (tile_body.sl.r d L ln fs)) n) := by
      intro n h1 h16
      subst hsv
      interval_cases n <;> rfl
    have hpay : ∀ p ∈ tile_body.sl.Hr'_16 d L ln fs, ∀ x : p.1.shape.Idx, p.2 x = capWord (starts (lane (tile_body.sl.r d L ln fs)))
        (BitVec.ofNat 32 (p.1.emb x 0).val + tile_body.sl.v29 L) := by
      have hoff : ∀ p ∈ tile_body.sl.Hr'_16 d L ln fs, ∃ o h, p = ⟨Rect.unit (s := S256) ![o] S16.size h,
          capVec sv (posV (tile_body.sl.v29 L) o)⟩ := by
        subst hsv
        intro p hp
        delta tile_body.sl.Hr'_16 at hp
        simp only [List.mem_cons, List.not_mem_nil, or_false] at hp
        rcases hp with rfl | rfl | rfl | rfl | rfl | rfl | rfl | rfl | rfl | rfl | rfl | rfl | rfl | rfl | rfl | rfl <;> exact ⟨_, _, rfl⟩
      intro p hp x
      obtain ⟨o, h, rfl⟩ := hoff p hp
      refine (capVec_apply _ _ hs _ _).trans (congrArg _ ((posV_apply _ _ _).trans ?_))
      rw [Rect.emb_apply]
      show BitVec.ofNat 32 (o + (x 0).val) + _ = BitVec.ofNat 32 (o + 1 * (x 0).val) + _
      rw [Nat.one_mul]
    have hlane : ∀ n, lane (tile_body.sl.r d L ln fs) n = ln (ix2 ⟨k1_off2 L 0, off2_row L⟩ n) := by
      intro n
      rw [lane_eq]
      delta tile_body.sl.r k1_pay2
      rw [shapeCast_apply _ _ (ix1 n) (ix1 n) rfl]
      refine (congrFun (View.readAt_full (s := S16) (sV).view _ inb_S16_S16_0) (ix1 n)).trans ?_
      rw [View.write_whole_univ]
      show (lRowK L).view.read (Elt F) ln (ix1 n) = _
      rw [View.read_apply, lRowK_emb]
      exact cast_eq _ _
    have hv29 : tile_body.sl.v29 L = BitVec.ofNat 32 (k1_off2 L 1) := by
      show tile_body.sl.v29 L = BitVec.ofNat 32 (tile_body.sl.v29 L).toNat
      rw [BitVec.ofNat_toNat, BitVec.setWidth_eq]
    have hcov : ∃ p ∈ tile_body.sl.Hr'_16 d L ln fs, y ∈ p.1.set :=
      View.cover_of_tiledL _ ![16] (by sl_kernel_rfl) y
    delta tile_body.sl.dma33
    refine (View.read_writes_apply_of_pieces _ _ (fun y => capWord (starts (lane (tile_body.sl.r d L ln fs)))
      (BitVec.ofNat 32 (y 0).val + tile_body.sl.v29 L)) _ hpay y hcov).trans ?_
    rw [cRowK_emb]
    show _ = capWord (starts fun n => ln (ix2 ⟨k1_off2 L 0, off2_row L⟩ n)) (BitVec.ofNat 32 (k1_off2 L 1 + (y 0).val))
    rw [show lane (tile_body.sl.r d L ln fs) = fun n => ln (ix2 ⟨k1_off2 L 0, off2_row L⟩ n) from funext hlane, hv29,
      Nat.add_comm, BitVec.ofNat_add]
  isplitl [Hi' Ho']
  · isplitl [Hi']; · iexact Hi'
    iapply (Entails.of_eq (pointsTo_congr (g := capSpec ln) fun i hi => by
      obtain ⟨y, -, rfl⟩ := Finset.mem_map.mp hi
      have hr := View.read_writes_cons_emb (cRowK L).view f₀ (Rect.whole S256) (tile_body.sl.dma33 d L ln fs fr) [] y
      rw [Rect.emb_whole_apply S256 y, View.read_apply] at hr
      exact ((cast_eq _ _).symm.trans hr).trans (hval y))) $$ Ho'
  isplitl [Hs' Hr' Hbufs]
  · isplitl [Hs']; · iexists _; iexact Hs'
    isplitl [Hr']; · iexists _; iexact Hr'
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Tile

end Cert.KernelIdeal.Run

end
-- ==== Proof.Ideal.Split.lean ====
/-
  How the SparseCore call's operands are dealt out: the lengths, which every task reads, by shares; the segment numbers
  by the places each task writes. With it the call's two obligations: each task's, and the split itself.
-/
module

public import proofs.«01_k».proof.Proof.Ideal.Tile

@[expose] public section

noncomputable section

namespace Cert.KernelIdeal.Run

open Cert.KernelIdeal Cert.KernelIdeal.Gen Cert.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Shares -/

/-- `n + 1` shares of `q`: the left half, then the `n` shares of the right half. -/
def comb : (n : ℕ) → PosShare TreeShare → Fin (n + 1) → PosShare TreeShare
  | 0, q => fun _ => q
  | n + 1, q => Fin.cons q.left (comb n q.right)

/-- A buffer held at a share is held at its `n + 1` shares at once. -/
theorem pointsTo_comb {ℓ : Loc nD τ sig} (f : Buf (Elt F) ℓ) (n : ℕ) : ∀ q : PosShare TreeShare,
    (ℓ ↦{q} f : sProp 𝕄) = bigSep Finset.univ fun i : Fin (n + 1) => ℓ ↦{comb n q i} f := by
  induction n with
  | zero => exact fun q => (bigSep_univ_of_subsingleton (0 : Fin 1) (Φ := fun i => (ℓ ↦{comb 0 q i} f : sProp 𝕄))).symm
  | succ n ih =>
    intro q
    have hs : (Finset.univ : Finset (Fin (n + 2))) = insert 0 (Finset.univ.map (Fin.succEmb (n + 1))) := by
      ext i; refine Fin.cases ?_ (fun j => ?_) i <;> simp
    rw [hs, SparseCore.bigSep_insert' (by simp), bigSep_map]
    rw [BI.Entails.antisymm (pointsTo_share (PosShare.mem_left_op_right q)).1 (pointsTo_share (PosShare.mem_left_op_right q)).2, ih q.right]
    rfl

/-! ## Places -/

/-- The number of the task that writes a place of the segment numbers. -/
def taskOf (ix : S8x1024.Idx) : ℕ := (ix 0).val * 4 + (ix 1).val / 256

/-- The places task `i` of core `c` writes, and those the tasks of core `c` write. -/
def tileSet (c i : ℕ) : Finset S8x1024.Idx := Finset.univ.filter fun ix => taskOf ix = i * 2 + c
def coreSet (c : ℕ) : Finset S8x1024.Idx := Finset.univ.filter fun ix => taskOf ix % 2 = c

/-- There are thirty-two tasks. -/
theorem taskOf_lt (ix : S8x1024.Idx) : taskOf ix < 32 := by
  have h0 : (ix 0).val < 8 := (ix 0).isLt
  have h1 : (ix 1).val < 1024 := (ix 1).isLt
  unfold taskOf; omega

/-- The two SparseCores' places are all the places. -/
theorem coreSet_cover : (Finset.univ : Finset (Fin 2)).biUnion (fun c => coreSet c.val) = Finset.univ := by
  ext ix
  simp only [Finset.mem_biUnion, Finset.mem_univ, true_and, coreSet, Finset.mem_filter, iff_true]
  exact ⟨⟨taskOf ix % 2, by omega⟩, rfl⟩
/-- The SparseCores share no place. -/
theorem coreSet_disjoint : ∀ c ∈ (Finset.univ : Finset (Fin 2)), ∀ c' ∈ (Finset.univ : Finset (Fin 2)), c ≠ c' →
    Disjoint (coreSet c.val) (coreSet c'.val) := fun c _ c' _ h => by
  refine Finset.disjoint_left.mpr fun ix h1 h2 => h (Fin.ext ?_)
  rw [← (Finset.mem_filter.mp h1).2, ← (Finset.mem_filter.mp h2).2]
/-- A SparseCore's places are its sixteen tiles'. -/
theorem tileSet_cover (c : Fin 2) : (Finset.univ : Finset (Fin 16)).biUnion (fun i => tileSet c.val i.val) = coreSet c.val := by
  ext ix
  have := taskOf_lt ix
  simp only [Finset.mem_biUnion, Finset.mem_univ, true_and, coreSet, tileSet, Finset.mem_filter]
  constructor
  · rintro ⟨i, hi⟩; omega
  · intro h; exact ⟨⟨taskOf ix / 2, by omega⟩, by show _ = taskOf ix / 2 * 2 + _; omega⟩
/-- The tiles share no place. -/
theorem tileSet_disjoint (c : Fin 2) : ∀ i ∈ (Finset.univ : Finset (Fin 16)), ∀ j ∈ (Finset.univ : Finset (Fin 16)), i ≠ j →
    Disjoint (tileSet c.val i.val) (tileSet c.val j.val) := fun i _ j _ h => by
  refine Finset.disjoint_left.mpr fun ix h1 h2 => h (Fin.ext ?_)
  have e1 := (Finset.mem_filter.mp h1).2
  have e2 := (Finset.mem_filter.mp h2).2
  omega

/-- The 256 places the task addresses are its own. -/
theorem set_cRowK (L : grid1.Coords) : (cRowK L).view.set = tileSet (L 0).val (L 1).val := by
  have e0 : k1_off2 L 0 = ((L 1).val * 2 + (L 0).val) / 4 := congrFun (off2_eq L) 0
  have e1 : k1_off2 L 1 = ((L 1).val * 2 + (L 0).val) % 4 * 256 := congrFun (off2_eq L) 1
  ext ix
  have h1 : (ix 1).val < 1024 := (ix 1).isLt
  constructor
  · intro h
    obtain ⟨y, -, rfl⟩ := Finset.mem_map.mp h
    have hy : (y 0).val < 256 := (y 0).isLt
    refine Finset.mem_filter.mpr ⟨Finset.mem_univ _, ?_⟩
    rw [cRowK_emb]
    show k1_off2 L 0 * 4 + (k1_off2 L 1 + (y 0).val) / 256 = _
    omega
  · intro h
    have ht : (ix 0).val * 4 + (ix 1).val / 256 = (L 1).val * 2 + (L 0).val := (Finset.mem_filter.mp h).2
    refine Finset.mem_map.mpr ⟨ix1 ⟨(ix 1).val % 256, by omega⟩, Finset.mem_univ _, ?_⟩
    rw [cRowK_emb]
    refine Eq.trans ?_ (eq_ix2 ix).symm
    refine congrArg₂ (fun a b => (ix2 a b : S8x1024.Idx)) (Fin.ext ?_) (Fin.ext ?_)
    · show k1_off2 L 0 = (ix 0).val; omega
    · show k1_off2 L 1 + (ix 1).val % 256 = (ix 1).val; omega

/-! ## What the call's signals carry -/

variable (m : (ℓ : Loc nD τ sig) → Buf (Elt F) ℓ) (ρ : Dev nD → PrngReg)

/-- Core `c`'s share of the lengths, and its task `i`'s. -/
abbrev qC (c : Fin 2) : PosShare TreeShare := comb 1 fullShare c
abbrev qT (c : Fin 2) (i : Fin 16) : PosShare TreeShare := comb 15 (qC c) i

/-- What core `c` is handed, the segment numbers at `f`; and what its task `i` is. -/
abbrev corePts (d : Dev nD) (c : Fin 2) (f : Buf (Elt F) (cLoc d)) : sProp 𝕄 :=
  iprop(lPts d (qC c) (m (lLoc d)) ∗ cPts d (coreSet c.val) f)
abbrev tilePts (d : Dev nD) (c : Fin 2) (i : Fin 16) (f : Buf (Elt F) (cLoc d)) : sProp 𝕄 :=
  iprop(lPts d (qT c i) (m (lLoc d)) ∗ cPts d (tileSet c.val i.val) f)

/-- The segment numbers of the lengths at launch. -/
abbrev capOut (d : Dev nD) : Buf (Elt F) (cLoc d) := capSpec (m (lLoc d))

/-- The call hands each core its share of the lengths and its places, each task its own of these, and they come back with
    the places at the segment numbers. -/
def P : (K (F := F)).Pay (nD := nD) (Val := Elt F) (Name := ℕ) (U := UU) where
  st := fun q d c => match q with | 0 => corePts m d (Fin.cast nCore_zero c) (m (cLoc d))
  dn := fun q d c => match q with | 0 => corePts m d (Fin.cast nCore_zero c) (capOut m d)
  go := fun q d c i => match q with | 0 => tilePts m d (Fin.cast nCore_zero c) (Fin.cast nSub_zero i) (m (cLoc d))
  td := fun q d c i => match q with | 0 => tilePts m d (Fin.cast nCore_zero c) (Fin.cast nSub_zero i) (capOut m d)
  x := fun _ _ => iprop(emp)

instance P_storable : (P (F := F) m).IsStorable where
  st q d c := match q with
    | 0 => (inferInstance : BI.Storable (upEmb : UEmb _ 𝕄) (corePts m d (Fin.cast nCore_zero c) (m (cLoc d))))
  dn q d c := match q with
    | 0 => (inferInstance : BI.Storable (upEmb : UEmb _ 𝕄) (corePts m d (Fin.cast nCore_zero c) (capOut m d)))
  go q d c i := match q with
    | 0 => (inferInstance : BI.Storable (upEmb : UEmb _ 𝕄) (tilePts m d (Fin.cast nCore_zero c) (Fin.cast nSub_zero i) (m (cLoc d))))
  td q d c i := match q with
    | 0 => (inferInstance : BI.Storable (upEmb : UEmb _ 𝕄) (tilePts m d (Fin.cast nCore_zero c) (Fin.cast nSub_zero i) (capOut m d)))

/-! ## The split -/

/-- A SparseCore's part is its tiles' parts. -/
theorem core_split (d : Dev nD) (c : Fin 2) (f : Buf (Elt F) (cLoc d)) :
    corePts m d c f = bigSep Finset.univ fun i : Fin 16 => tilePts m d c i f := by
  unfold corePts tilePts
  rw [bigSep_sep']
  refine congrArg₂ _ (pointsTo_comb (m (lLoc d)) 15 (qC c)) ?_
  show (cLoc d ↦[coreSet c.val]{fullShare} f : sProp 𝕄) = _
  rw [← tileSet_cover c]
  exact pointsTo_biUnion Finset.univ (ℓ := cLoc d) (fun i : Fin 16 => tileSet c.val i.val) (tileSet_disjoint c)

/-- The whole is the SparseCores' parts. -/
theorem whole_split (d : Dev nD) (f : Buf (Elt F) (cLoc d)) :
    iprop(lPts d fullShare (m (lLoc d)) ∗ cLoc d ↦{fullShare} f) = (bigSep Finset.univ fun c : Fin 2 => corePts m d c f : sProp 𝕄) := by
  unfold corePts
  rw [bigSep_sep']
  refine congrArg₂ _ (pointsTo_comb (m (lLoc d)) 1 fullShare) ?_
  have h := pointsTo_biUnion (Ix := HIx 1) (Name := ℕ) (U := UU) (Lvl := ℕ) (q := fullShare) (f := f) Finset.univ (ℓ := cLoc d)
    (fun c : Fin 2 => coreSet c.val) coreSet_disjoint
  rw [coreSet_cover] at h
  exact h

/-- A core's operands are its tasks', before and after. -/
theorem vecSplit : (K (F := F)).VecSplit' (P m) 0 := by
  intro d c
  show corePts m d (Fin.cast nCore_zero c) (m (cLoc d)) ⊢ |={Set.univ}=> iprop(
      (bigSep Finset.univ fun i : Fin 16 => tilePts m d (Fin.cast nCore_zero c) i (m (cLoc d)))
      ∗ ((bigSep Finset.univ fun i : Fin 16 => tilePts m d (Fin.cast nCore_zero c) i (capOut m d))
          -∗ corePts m d (Fin.cast nCore_zero c) (capOut m d)))
  rw [← core_split, ← core_split]
  iintro H; imodintro
  isplitl [H]; · iexact H
  iintro H; iexact H

/-! ## Each task's obligation -/

variable [FloatOps F] [Named F]

/-- The coordinates of the task on vector subcore `s` of core `c`. -/
def coordsV (c : Fin (grid1.bound 0)) (s : Fin (grid1.bound 1)) : grid1.Coords :=
  fun | 0 => c | 1 => s | ⟨_ + 2, h⟩ => absurd h (Nat.not_lt.2 (Nat.le_add_left _ _))

/-- What a tile runs is the kernel body at its coordinates. -/
theorem defs₀_vector (c : Fin τ.nSC) (s : Fin τ.nSub) :
    defs₀ (F := F) (.scVector c s) 1 ()
      = SparseCore.onTile hcore1 hsub1 (fun c s => cc1__sc_body (coordsV c s) lensV (Memref.isWhole_whole _) capV (Memref.isWhole_whole _)
          sV (Memref.isWhole_whole _) rV (Memref.isWhole_whole _) cc1_scoped0 cc1_scoped1) ⟨⟩ c s := rfl

omit [FloatOps F] [Named F] in
/-- A task that recorded no wait of the call recorded at most the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call runs from what it is handed to what it hands back. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body (F := F) d (coordsV ⟨_, hci.1⟩ ⟨_, hci.2⟩) hF (qT (Fin.cast nCore_zero c) (Fin.cast nSub_zero i)) (m (lLoc d)) (m (cLoc d)) O W hO
  rw [set_cRowK] at h
  exact h.trans (wp_mono frame _ _ fun _ => obl_post)

end Cert.KernelIdeal.Run

end
-- ==== Proof.Ideal.TcBody.lean ====
/-
  One grid point of the TensorCore kernel: on whole staging buffers the body leaves its four outputs at closed forms of
  the lengths, the features, the weights and the bias.
-/
module

public import proofs.«01_k».proof.Proof.Ideal.Split
public import proofs.«01_k».proof.Proof.Gen.KernelIdeal.Launch
public import proofs.«01_k».proof.Proof.Gen.KernelIdeal.Points

@[expose] public section

set_option maxRecDepth 16384

noncomputable section

namespace Cert.KernelIdeal.Run

open Cert.KernelIdeal Cert.KernelIdeal.Gen Cert.Words

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.SparseCore.Cfg (HIx)
open Idealize.ShloMosaic.Pipeline (Dat Cfg Window BodyObligation cellOf)

variable {F : FTy → Type} [FloatOps F] [Named F]

local notation "𝕄" => MT nD τ sig (HIx 1) (Elt F) ℕ UU ℕ

/-! ## The outputs in closed form, from the running sums `s` of a row of lengths -/

/-- The positions, down the rows and along the columns. -/
abbrev iotaC : IVec S1024x1 32 := iota .tc S1024x1 32 [0] iota_S1024x1_d0_w32
abbrev iotaR : IVec S1x1024 32 := iota .tc S1x1024 32 [1] iota_S1x1024_d1_w32

/-- The start of each row's segment after twelve comparisons, and the thirteenth comparison; -/
abbrev spos12 (s : ℕ → BitVec 32) : IVec S1024x1 32 :=
  k0_pay30 (s 7) (s 8) (s 9) (s 10) (s 11) (s 12) iotaC
    (k0_pay20 (s 1) (s 2) (s 3) (s 4) (s 5) (s 6) iotaC k0_pay9 (k0_pay11 (s 1))) (k0_pay21 (s 7) iotaC)
abbrev reach13 (s : ℕ → BitVec 32) : IVec S1024x1 1 := k0_pay31 (s 13) iotaC
/-- the running sums each row has reached among the first fourteen; -/
abbrev count13 (s : ℕ → BitVec 32) : IVec S1024x1 32 :=
  k0_pay32 (s 8) (s 9) (s 10) (s 11) (s 12) (s 13) iotaC (k0_pay22 (s 2) (s 3) (s 4) (s 5) (s 6) (s 7) iotaC (k0_pay12 (s 1)))
/-- and each column among the first thirteen. -/
abbrev countR12 (s : ℕ → BitVec 32) : IVec S1x1024 32 :=
  k0_pay29 (s 8) (s 9) (s 10) (s 11) (s 12) iotaR
    (k0_pay19 (s 2) (s 3) (s 4) (s 5) (s 6) iotaR k0_pay10 (k0_pay13 (s 1))) (k0_pay23 (s 7) iotaR)

/-- The projected features in sequence order; -/
def projOut (s : ℕ → BitVec 32) (x : Vec F S1x1024x512 .f32) (w : Vec F S256x512 .f32) (b : Vec F S1x256 .f32) : Vec F S1x1024x256 .f32 :=
  k0_pay41 (s 13) (s 14) (s 15) (s 16) iotaC iotaR (spos12 s) (reach13 s) (count13 s) (k0_pay4 x w b)
/-- the positional encodings; -/
def posOut (s : ℕ → BitVec 32) : Vec F S1x1024x256 .f32 :=
  k0_pay1 (k0_pay8 k0_pay5 (iota .tc S64x256 32 [1] iota_S64x256_d1_w32) k0_pay6 k0_pay7) (k0_pay37 (s 16) iotaC)
    (k0_pay42 (s 13) (s 14) (s 15) iotaC (spos12 s) (reach13 s))
/-- which positions lie in a segment; -/
def maskOut (s : ℕ → BitVec 32) : Vec F S1x1x1024 .i32 := k0_pay2 (k0_pay38 (s 16) iotaR)
/-- and which pairs of positions lie in different ones. -/
def attOut (s : ℕ → BitVec 32) : Vec F S1x1024x1024 .i32 :=
  k0_pay3 iotaC iotaR (k0_pay37 (s 16) iotaC) (k0_pay38 (s 16) iotaR) (k0_pay39 (s 14) (s 15) iotaC (count13 s))
    (k0_pay40 (s 14) (s 15) iotaR (countR12 s) (k0_pay33 (s 13) iotaR))

/-- The running sums of batch row `i`. -/
abbrev sums (x0 : Vec F S8x16 .i32) (i : grid0.Coords) : ℕ → BitVec 32 := starts fun n => x0 (ix2 (i 0) n)

/-- Each length read lies inside the array of lengths. -/
theorem inb_len (i : grid0.Coords) (n : Fin 16) :
    ∀ a, (![(Scalar.indexCast (BitVec.ofNat 32 (i 0).val) : Index).toNat, n.val] : Fin 2 → ℕ) a + S1x1.size a ≤ S8x16.size a := by
  revert n; revert i; decide +kernel

/-- Length `n` of batch row `i`, as the body loads it; -/
def ld (arg1 : Memref sig .tc .smem S8x16 .i32) (harg1 : arg1.IsWhole) (x0 : Vec F S8x16 .i32) (i : grid0.Coords) (n : Fin 16) : BitVec 32 :=
  View.readAt (Elt F) arg1.view (Rect.unit (s := S8x16) ![(Scalar.indexCast (BitVec.ofNat 32 (i 0).val) : Index).toNat, n.val] S1x1.size (inb_len i n)).toLoadRect
    (harg1.unread x0) (Shape.Idx.first (show 0 < S1x1.numel by decide))

/-- it is the length. -/
theorem ld_eq (arg1 : Memref sig .tc .smem S8x16 .i32) (harg1 : arg1.IsWhole) (x0 : Vec F S8x16 .i32) (i : grid0.Coords) (n : Fin 16) :
    ld arg1 harg1 x0 i n = x0 (ix2 (i 0) n) := by
  have hi : (Scalar.indexCast (BitVec.ofNat 32 (i 0).val) : Index).toNat = (i 0).val := by
    revert i; decide +kernel
  show View.read (Elt F) arg1.view (harg1.unread x0) _ = _
  rw [harg1.read_unread]
  congr 1
  funext a
  match a with
  | 0 => exact Fin.ext (by show (Scalar.indexCast (BitVec.ofNat 32 (i 0).val) : Index).toNat + 1 * 0 = (i 0).val; omega)
  | 1 => exact Fin.ext (by show n.val + 1 * 0 = n.val; omega)

set_option maxHeartbeats 1000000 in
/-- The body of grid point `i`, from its inputs' staging buffers at contents `x0 … x3`. -/
theorem main_body (c : Dev nD) (i : grid0.Coords) (arg1 : Memref sig .tc .smem S8x16 .i32) (harg1 : arg1.IsWhole)
    (arg2 : Memref sig .tc .vmem S1x1024x512 .f32) (harg2 : arg2.IsWhole) (arg3 : Memref sig .tc .vmem S256x512 .f32) (harg3 : arg3.IsWhole)
    (arg4 : Memref sig .tc .vmem S1x256 .f32) (harg4 : arg4.IsWhole) (arg5 : Memref sig .tc .vmem S1x1024x256 .f32) (harg5 : arg5.IsWhole)
    (arg6 : Memref sig .tc .vmem S1x1024x256 .f32) (harg6 : arg6.IsWhole) (arg7 : Memref sig .tc .vmem S1x1x1024 .i32) (harg7 : arg7.IsWhole)
    (arg8 : Memref sig .tc .vmem S1x1024x1024 .i32) (harg8 : arg8.IsWhole) (arg9 : Memref sig .tc .vmem S1024x256 .f32) (harg9 : arg9.IsWhole)
    (x0 : Vec F S8x16 .i32) (x1 : Vec F S1x1024x512 .f32) (x2 : Vec F S256x512 .f32) (x3 : Vec F S1x256 .f32)
    (E : Set ℕ) (Q : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (projOut (sums x0 i) x1 x2 x3)
            ∗ owns (c : Thread nD τ) arg6 fullShare (posOut (F := F) (sums x0 i)) ∗ owns (c : Thread nD τ) arg7 fullShare (maskOut (F := F) (sums x0 i))
            ∗ owns (c : Thread nD τ) arg8 fullShare (attOut (F := F) (sums x0 i)) ∗ (∃ d, owns (c : Thread nD τ) arg9 fullShare d)) -∗ Q ⟨⟩))
      ⊢ wp frame (wpE (defs₀ (F := F)) Variants.none c none) E
          (cc0__main_body i arg1 harg1 arg2 harg2 arg3 harg3 arg4 harg4 arg5 harg5 arg6 harg6 arg7 harg7 arg8 harg8 arg9 harg9) Q := by
  simp only [cc0__main_body_eq_skeleton]; unfold cc0__main_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  sl_exec
  sl_step
  have hl : (fun n => x0 (ix2 (i 0) n)) = ld arg1 harg1 x0 i := funext fun n => (ld_eq arg1 harg1 x0 i n).symm
  have hscr : main_body.sl.v294 c arg2 harg2 arg3 harg3 arg4 harg4 arg9 x1 x2 x3 = k0_pay4 x1 x2 x3 := by
    delta main_body.sl.v294 main_body.sl.H8_1
    rw [View.readCov_full, View.readAt_full, View.readAt_full, View.readAt_full, hf1, hf2, hf3]
  unfold sums
  rw [hl]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_full _ _ _ _ _).trans ?_
    rw [hscr]; rfl
  isplitl [H5]
  · iexists _; isplitr
    swap; · iexact H5
    ipureintro
    exact (View.read_writes_full (s := S1x1024x256) _ _ _ _ _).trans rfl
  isplitl [H6]
  · iexists _; isplitr
    swap; · iexact H6
    ipureintro
    exact (View.read_writes_full (s := S1x1x1024) _ _ _ _ _).trans rfl
  isplitl [H7]
  · iexists _; isplitr
    swap; · iexact H7
    ipureintro
    exact (View.read_writes_full (s := S1x1024x1024) _ _ _ _ _).trans rfl
  iexists _; iexists _; isplitr
  swap; · iexact H8
  ipureintro; rfl

end Cert.KernelIdeal.Run

end
-- ==== Proof.Ideal.Region.lean ====
/-
  The TensorCore kernel's region inside @main: its proof data, the body obligation at every grid point, and the region
  itself, entered and left while the core still owes the SparseCore call's start.
-/
module

public import proofs.«01_k».proof.Proof.Ideal.TcBody
public import Idealize.ShloMosaic.Lib.Pipeline.FrameBody
public import Idealize.ShloMosaic.Lib.Pipeline.FrameTail
public import Idealize.ShloMosaic.Lib.Pipeline.RegionArrays
public import Idealize.ShloMosaic.Lib.Pipeline.RegionArraysS
public import Idealize.ShloMosaic.Lib.SparseCore.Threads

@[expose] public section

set_option maxRecDepth 16384

noncomputable section

namespace Cert.KernelIdeal.Run

open Cert.KernelIdeal Cert.KernelIdeal.Gen Cert.Words

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.SparseCore.Cfg (HIx)
open Idealize.ShloMosaic.Pipeline

variable {F : FTy → Type} [FloatOps F] [Named F]

local notation "𝕄" => MT nD τ sig (HIx 1) (Elt F) ℕ UU ℕ

variable (V : Dev nD → Valuation τ sig (Elt F))

/-! ## The proof data -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (arrRef spec0 w)))

/-- The running sums the body forms at point `t`. -/
abbrev sumsAt (c : Dev nD) (t : Fin cfg0.N) : ℕ → BitVec 32 := sums (F := F) (iblk V c 0 t) (grid0.coords t)

/-- The pairs the core may have recorded before the region: those of level zero. -/
abbrev low (c : Dev nD) : Set (SemLoc sig × HIx 1) := {p | (K (F := F)).lev ((c : Thread nD τ), p.1) p.2 ≤ 0}

/-- The proof data of the region on core `c`: the arrays as the region finds them; after the body each input's buffer
    at its block and each output's at its closed form; the core owes the SparseCore call's start throughout. -/
def dats (_ : Fin 1) (c : Dev nD) : Dat τ (Elt F) (HIx 1) ℕ UU ℕ cfg0 c where
  A w := V c (Proc.devRef .tc (arrRef spec0 w))
  after w t := match w with
    | ⟨0, _⟩ => iblk V c 0 t
    | ⟨1, _⟩ => iblk V c 1 t
    | ⟨2, _⟩ => iblk V c 2 t
    | ⟨3, _⟩ => iblk V c 3 t
    | ⟨4, _⟩ => projOut (sumsAt V c t) (iblk V c 1 t) (iblk V c 2 t) (iblk V c 3 t)
    | ⟨5, _⟩ => posOut (F := F) (sumsAt V c t)
    | ⟨6, _⟩ => maskOut (F := F) (sumsAt V c t)
    | ⟨7, _⟩ => attOut (F := F) (sumsAt V c t)
  Φ _ := scopedRest spec0 c
  q _ := fullShare
  owed _ := (K (F := F)).Otc c 0
  recorded _ := low (F := F) c

/-- A window's array, as the region finds it. -/
theorem A_eq (c : Dev nD) (w : Fin cfg0.W) : (dats V 0 c).A w = V c (Proc.devRef .tc (arrRef spec0 w)) := by
  dsimp only [dats]

/-- An input's block is the same after the body. -/
theorem after0_0 (c : Dev nD) (t : Fin cfg0.N) : (dats V 0 c).after 0 t = iblk V c 0 t := by dsimp only [dats]
/-- An input's block is the same after the body. -/
theorem after0_1 (c : Dev nD) (t : Fin cfg0.N) : (dats V 0 c).after 1 t = iblk V c 1 t := by dsimp only [dats]
/-- An input's block is the same after the body. -/
theorem after0_2 (c : Dev nD) (t : Fin cfg0.N) : (dats V 0 c).after 2 t = iblk V c 2 t := by dsimp only [dats]
/-- An input's block is the same after the body. -/
theorem after0_3 (c : Dev nD) (t : Fin cfg0.N) : (dats V 0 c).after 3 t = iblk V c 3 t := by dsimp only [dats]
/-- The projection's block after the body. -/
theorem after0_4 (c : Dev nD) (t : Fin cfg0.N) :
    (dats V 0 c).after 4 t = projOut (sumsAt V c t) (iblk V c 1 t) (iblk V c 2 t) (iblk V c 3 t) := by dsimp only [dats]
/-- The positional array's block after the body. -/
theorem after0_5 (c : Dev nD) (t : Fin cfg0.N) : (dats V 0 c).after 5 t = posOut (F := F) (sumsAt V c t) := by dsimp only [dats]
/-- The padding mask's block after the body. -/
theorem after0_6 (c : Dev nD) (t : Fin cfg0.N) : (dats V 0 c).after 6 t = maskOut (F := F) (sumsAt V c t) := by dsimp only [dats]
/-- The attention mask's block after the body. -/
theorem after0_7 (c : Dev nD) (t : Fin cfg0.N) : (dats V 0 c).after 7 t = attOut (F := F) (sumsAt V c t) := by dsimp only [dats]

/-- Each input's current staging buffer holds its block at every point, fetched there or not. -/
theorem before0_0 (c : Dev nD) (t : Fin cfg0.N) (d) : (dats V 0 c).before 0 t d = iblk V c 0 t :=
  ((dats V 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
/-- The same of this input. -/
theorem before0_1 (c : Dev nD) (t : Fin cfg0.N) (d) : (dats V 0 c).before 1 t d = iblk V c 1 t :=
  ((dats V 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
/-- The same of this input. -/
theorem before0_2 (c : Dev nD) (t : Fin cfg0.N) (d) : (dats V 0 c).before 2 t d = iblk V c 2 t :=
  ((dats V 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
/-- The same of this input. -/
theorem before0_3 (c : Dev nD) (t : Fin cfg0.N) (d) : (dats V 0 c).before 3 t d = iblk V c 3 t :=
  ((dats V 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)

/-! ## The body obligation -/

/-- Each window's current staging memref at point `t`. -/
abbrev mem0 (t : Fin cfg0.N) : Memref sig .tc .smem S8x16 .i32 := win0_0.stage (cfg0.slots t 0)
abbrev mem1 (t : Fin cfg0.N) : Memref sig .tc .vmem S1x1024x512 .f32 := win0_1.stage (cfg0.slots t 1)
abbrev mem2 (t : Fin cfg0.N) : Memref sig .tc .vmem S256x512 .f32 := win0_2.stage (cfg0.slots t 2)
abbrev mem3 (t : Fin cfg0.N) : Memref sig .tc .vmem S1x256 .f32 := win0_3.stage (cfg0.slots t 3)
abbrev mem4 (t : Fin cfg0.N) : Memref sig .tc .vmem S1x1024x256 .f32 := win0_4.stage (cfg0.slots t 4)
abbrev mem5 (t : Fin cfg0.N) : Memref sig .tc .vmem S1x1024x256 .f32 := win0_5.stage (cfg0.slots t 5)
abbrev mem6 (t : Fin cfg0.N) : Memref sig .tc .vmem S1x1x1024 .i32 := win0_6.stage (cfg0.slots t 6)
abbrev mem7 (t : Fin cfg0.N) : Memref sig .tc .vmem S1x1024x1024 .i32 := win0_7.stage (cfg0.slots t 7)
/-- The kernel's scratch buffer. -/
abbrev scr : Memref sig .tc .vmem S1024x256 .f32 := Memref.whole cc0_scratch0

/-- What the body is called with at point `t`, the windows one by one, -/
def bodyPre (c : Dev nD) (t : Fin cfg0.N) : sProp 𝕄 :=
  iprop((dats V 0 c).Φ t.castSucc ∗ (dats V 0 c).owesAt none t.castSucc
    ∗ (∃ d, owns (c : Thread nD τ) (mem0 t) fullShare ((dats V 0 c).before 0 t d))
    ∗ (∃ d, owns (c : Thread nD τ) (mem1 t) fullShare ((dats V 0 c).before 1 t d))
    ∗ (∃ d, owns (c : Thread nD τ) (mem2 t) fullShare ((dats V 0 c).before 2 t d))
    ∗ (∃ d, owns (c : Thread nD τ) (mem3 t) fullShare ((dats V 0 c).before 3 t d))
    ∗ (∃ d, owns (c : Thread nD τ) (mem4 t) fullShare ((dats V 0 c).before 4 t d))
    ∗ (∃ d, owns (c : Thread nD τ) (mem5 t) fullShare ((dats V 0 c).before 5 t d))
    ∗ (∃ d, owns (c : Thread nD τ) (mem6 t) fullShare ((dats V 0 c).before 6 t d))
    ∗ (∃ d, owns (c : Thread nD τ) (mem7 t) fullShare ((dats V 0 c).before 7 t d)))

/-- and what it returns. -/
def bodyPost (c : Dev nD) (t : Fin cfg0.N) : sProp 𝕄 :=
  iprop((dats V 0 c).Φ t.succ ∗ (dats V 0 c).owesAt none t.succ
    ∗ owns (c : Thread nD τ) (mem0 t) fullShare ((dats V 0 c).after 0 t)
    ∗ owns (c : Thread nD τ) (mem1 t) fullShare ((dats V 0 c).after 1 t)
    ∗ owns (c : Thread nD τ) (mem2 t) fullShare ((dats V 0 c).after 2 t)
    ∗ owns (c : Thread nD τ) (mem3 t) fullShare ((dats V 0 c).after 3 t)
    ∗ owns (c : Thread nD τ) (mem4 t) fullShare ((dats V 0 c).after 4 t)
    ∗ owns (c : Thread nD τ) (mem5 t) fullShare ((dats V 0 c).after 5 t)
    ∗ owns (c : Thread nD τ) (mem6 t) fullShare ((dats V 0 c).after 6 t)
    ∗ owns (c : Thread nD τ) (mem7 t) fullShare ((dats V 0 c).after 7 t))

/-- The buffers the region's rest is: the scratch at some contents. -/
theorem rest_eq (c : Dev nD) : (scopedRest spec0 c : sProp 𝕄) = iprop(∃ d, owns (c : Thread nD τ) scr fullShare d) := by
  rw [scopedRest0_eq]; simp only [scr, owns_whole]; try rfl

set_option maxHeartbeats 800000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dats V 0 c).Φ t.succ = (dats V 0 c).Φ t.castSucc from rfl,
    show (dats V 0 c).owesAt none t.succ = (dats V 0 c).owesAt none t.castSucc from rfl,
    after0_0, after0_1, after0_2, after0_3, after0_4, after0_5, after0_6, after0_7]
  rw [show (dats V 0 c).Φ t.castSucc = scopedRest spec0 c from rfl, rest_eq]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (main_body c (grid0.coords t) _ _ _ _ _ _ _ _ _ _ _ _ _ _ _ _ _ _ (iblk V c 0 t) (iblk V c 1 t) (iblk V c 2 t) (iblk V c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS]; · iexact HS
  iintro ⟨H0, H1, H2, H3, H4, H5, H6, H7, HS⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body. -/
theorem defs₀_row (t : Fin cfg0.N) :
    defs₀ (F := F) .tc cfg0.body (cfg0.bodyArgs t (cfg0.slots t)) = bodyAt0 t := rfl

/-- The body's triple, at every point, on every core. -/
theorem body_obligation (c : Dev nD) : BodyObligation (dats V 0 c) (defs₀ (F := F)) Variants.none none Set.univ := fun t => by
  rw [bigSep_W0, bigSep_W0, defs₀_row]
  exact triple_restated (sound_body V c t) rfl .rfl fun _ => .rfl

/-! ## The region -/

/-- No pipeline has a prefetched table. -/
abbrev adm : (p : Fin 1) → (pcfgs (F := F) p).Adm := fun p => (cfgs p).toPCfg_adm

/-- What the core owes in the region: the starts of the SparseCore call. -/
abbrev owing (c : Dev nD) : sProp 𝕄 :=
  iprop(∃ W, ⌜(K (F := F)).WBelow (c : Thread nD τ) W 0⌝ ∗ owes (c : Thread nD τ) ((K (F := F)).Otc c 0) W)

/-- The region's waits lie below what the core owes to the SparseCore call. -/
theorem cut : LevelCut (pcfgs (F := F)) adm (none : HIx 1) (K (F := F)).L (K (F := F)).lev 0 (fun c : Dev nD => (K (F := F)).Otc c 0) (fun _ => 0) where
  hι _ _ _ := Finset.mem_univ _
  hιb _ _ _ := le_of_eq ((K (F := F)).lev_none _)
  hD _ _ _ h := ⟨Finset.mem_univ _, lt_of_lt_of_le (Nat.succ_pos _) ((K (F := F)).lev_of_Otc_pos h)⟩

/-- Every window's array is held in full. -/
theorem share_full (c : Dev nD) : ∀ w, (dats V 0 c).share w = fullShare := (dats V 0 c).share_full fun _ => rfl

/-- The contents the region leaves. -/
def left (c : Dev nD) : Valuation τ sig (Elt F) := afterRegion (dats V 0 c) (V c)

/-- The region, entered from the unscoped buffers at `V` and left with them at `left V`. -/
def region : RegionSeg (pcfgs (F := F)) adm (dats V) (none : HIx 1) (defs₀ (F := F)) Variants.none (K (F := F)).L (K (F := F)).lev 0 where
  win := launch0.to₀.win
  block_pos := launch0.block_pos
  stage_whole := launch0.stage_whole
  K := PEmpty
  osem k := k.elim
  ho := OwnSemFacts.none _
  hbody c := (body_obligation V c).loose
  hwaits c := cellsWaits_of_cut (pin (pcfgs (F := F)) adm) (dats V) none 0 c 0 ((K (F := F)).Otc c 0) (fun _ => rfl) (cut.hι c) (cut.hιb c) (cut.hD c)
  pre c := iprop(StableHlo.held (c.tc : Thread nD τ) (ucRefs τ sig) (V c) ∗ owing (F := F) c)
  post c := iprop(StableHlo.held (c.tc : Thread nD τ) (ucRefs τ sig) (left V c) ∗ owing (F := F) c)
  X _ := iprop(emp)
  Y _ := iprop(emp)
  Z c := StableHlo.held (c.tc : Thread nD τ) (ucRefs τ sig \ arrRefs spec0) (V c)
  hentry c := by
    rw [ownSems0_none, prefHeld_of_none _ rfl, StableHlo.held_sub_split (c.tc : Thread nD τ) (arrRefs_sub_ucRefs spec0 launch0.win.arr_unscoped) (V c),
      ← arrays_held (pcfgs (F := F)) adm (dats V) 0 launch0.toP c (share_full V c) ((dats V 0 c).arrAt · 0) (V c) (fun w => A_eq V c w)]
    iintro ⟨⟨⟨Ha, Hr⟩, HO⟩, -, -⟩
    imodintro
    isplitl [Ha]; · iexact Ha
    isplitr; · iempintro
    isplitl [HO]
    · unfold Dat.owesAt owesWithin Dat.bound
      icases HO with ⟨%W, %hW, HO⟩; iexists W; isplitr; · ipureintro; exact fun p hp => Or.inl (hW p hp)
      iexact HO
    isplitr; · iempintro
    iexact Hr
  hin c := (show iprop(emp ∗ prefHeld (pcfgs (F := F) 0).pre c (fun _ => fullShare) (adm 0).1 ∗ scopedRest spec0 c) ⊢ (scopedRest spec0 c : sProp 𝕄) from
    sep_elim_right.trans sep_elim_right)
  hout c := by
    rw [ownSems0_none]
    show (scopedRest spec0 c : sProp 𝕄) ⊢ iprop(emp ∗ emp ∗ scopedRest spec0 c)
    iintro H
    isplitr; · iempintro
    isplitr; · iempintro
    iexact H
  hexit c := by
    rw [StableHlo.held_sub_split (c.tc : Thread nD τ) (arrRefs_sub_ucRefs spec0 launch0.win.arr_unscoped) (left V c),
      StableHlo.held_congr (c.tc : Thread nD τ) (S := ucRefs τ sig \ arrRefs spec0) (V := left V c) (V' := V c) (afterRegion_off (dats V 0 c) (V c) (ucRefs τ sig)),
      ← arrays_held (pcfgs (F := F)) adm (dats V) 0 launch0.toP c (share_full V c) ((dats V 0 c).arrAt · cfg0.N) (left V c)
        (fun w => (afterRegion_arr (dats V 0 c) (V c) launch0.win.arr_inj w).symm)]
    iintro ⟨Ha, HO, -, Hr⟩
    imodintro
    isplitl [Ha Hr]
    · isplitl [Ha]; · iexact Ha
      iexact Hr
    unfold Dat.owesAt owesWithin Dat.bound
    icases HO with ⟨%W, %hW, HO⟩; iexists W; isplitr
    · ipureintro
      intro p hp
      rcases hW hp with h | ⟨w, s, rfl⟩
      · exact h
      · exact le_of_eq ((K (F := F)).lev_none _)
    iexact HO

end Cert.KernelIdeal.Run

end
-- ==== Proof.Ideal.Launch.lean ====
/-
  The whole program: @main's host operations, its TensorCore region and its SparseCore call, run from any memory with
  zero counters. Every unscoped buffer of every device ends at contents named here, every counter at zero.
-/
module

public import proofs.«01_k».proof.Proof.Ideal.Region

@[expose] public section

set_option maxRecDepth 16384

noncomputable section

namespace Cert.KernelIdeal.Run

open Cert.KernelIdeal Cert.KernelIdeal.Gen Cert.Words

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The host operations, and the contents after each stage of @main -/

/-- Before the region: the features and the bias reshaped. -/
abbrev ops0 : List (HloOp τ sig (Elt F)) :=
  [StableHlo.reshape main_arg0 main_v0 (rfl : (.f32 : EltTy) = .f32) shapeCasts_S8x16x64x512_S8x1024x512,
   StableHlo.reshape main_arg3 main_v1 (rfl : (.f32 : EltTy) = .f32) shapeCasts_S256_S1x256]
/-- Between the region and the call: the two masks made booleans. -/
abbrev ops1 : List (HloOp τ sig (Elt F)) :=
  [StableHlo.nullary main_c (constantI S_ 32 0#32),
   StableHlo.unary main_c main_v3 (broadcastInDim S8x1x1024 ![] bcast_S_S8x1x1024 : (⟨S_, .i32⟩ : BufTy).Contents (Elt F) → (⟨S8x1x1024, .i32⟩ : BufTy).Contents (Elt F)),
   StableHlo.binary main_v2_2 main_v3 main_v4 (cmpi .ne : (⟨S8x1x1024, .i32⟩ : BufTy).Contents (Elt F) → (⟨S8x1x1024, .i32⟩ : BufTy).Contents (Elt F) → (⟨S8x1x1024, .i1⟩ : BufTy).Contents (Elt F)),
   StableHlo.unary main_v4 main_v5 (id : (⟨S8x1x1024, .i1⟩ : BufTy).Contents (Elt F) → (⟨S8x1x1024, .i1⟩ : BufTy).Contents (Elt F)),
   StableHlo.nullary main_c_0 (constantI S_ 32 0#32),
   StableHlo.unary main_c_0 main_v6 (broadcastInDim S8x1024x1024 ![] bcast_S_S8x1024x1024 : (⟨S_, .i32⟩ : BufTy).Contents (Elt F) → (⟨S8x1024x1024, .i32⟩ : BufTy).Contents (Elt F)),
   StableHlo.binary main_v2_3 main_v6 main_v7 (cmpi .ne : (⟨S8x1024x1024, .i32⟩ : BufTy).Contents (Elt F) → (⟨S8x1024x1024, .i32⟩ : BufTy).Contents (Elt F) → (⟨S8x1024x1024, .i1⟩ : BufTy).Contents (Elt F)),
   StableHlo.unary main_v7 main_v8 (id : (⟨S8x1024x1024, .i1⟩ : BufTy).Contents (Elt F) → (⟨S8x1024x1024, .i1⟩ : BufTy).Contents (Elt F))]
/-- After the call: the validity mask reshaped. -/
abbrev ops2 : List (HloOp τ sig (Elt F)) :=
  [StableHlo.reshape main_v5 main_v10 (rfl : (.i1 : EltTy) = .i1) shapeCasts_S8x1x1024_S8x1024]

/-- @main, as its host operations, the region and the call in order. -/
theorem main_eq (d : Dev nD) : main (F := F) d = (StableHlo.seq ops0 >>= fun _ =>
    Prog.lift (.customCall (SparseCore.inner (Pipeline.entry 0)) ()) >>= fun _ =>
    StableHlo.seq ops1 >>= fun _ => sc.run d 0 >>= fun _ => StableHlo.seq ops2 >>= fun _ => pure ⟨⟩) := by
  simp only [main, StableHlo.seq, bind_assoc, pure_bind]

/-- The contents when the region is entered, -/
def W1 (d : Dev nD) : Valuation τ sig (Elt F) := StableHlo.after ops0 fun b => m (d, b)
/-- when it is left, -/
def W2 (d : Dev nD) : Valuation τ sig (Elt F) := left (W1 m) d
/-- when the call starts, -/
def W3 (d : Dev nD) : Valuation τ sig (Elt F) := StableHlo.after ops1 (W2 m d)
/-- when it has ended, -/
def W4 (d : Dev nD) : Valuation τ sig (Elt F) := Function.update (W3 m d) (Proc.devRef .tc main_v9) (capOut m d)
/-- and when @main ends. -/
def W5 (d : Dev nD) : Valuation τ sig (Elt F) := StableHlo.after ops2 (W4 m d)

/-- The reshapes before the region change only their results. -/
theorem W1_of (d : Dev nD) (b : Ref sig .tc) (h0 : b ≠ main_v0) (h1 : b ≠ main_v1) :
    W1 m d (Proc.devRef .tc b) = m (d, Proc.devRef .tc b) :=
  StableHlo.after_of_forall_not_mem (b := Proc.devRef .tc b) _ _ (List.forall_iff_forall_mem.mp (by
    simp only [List.Forall, StableHlo.reshape_writes, Finset.mem_singleton]
    exact ⟨StableHlo.devRef_ne_of_ne h0, StableHlo.devRef_ne_of_ne h1⟩))

/-- The region leaves every buffer but its outputs as it found it. -/
theorem W2_of (d : Dev nD) (b : Ref sig .tc) (h : ∀ w, arrRef spec0 w = b → (cfg0.win w).isOut = false) :
    W2 m d (Proc.devRef .tc b) = W1 m d (Proc.devRef .tc b) :=
  afterRegion_keeps (dats (W1 m) 0 d) (W1 m d) launch0.win.arr_inj (A_eq (W1 m) d) b h

/-- The operations after the region change only their results. -/
theorem W3_of (d : Dev nD) (b : Ref sig .tc) (h : b ∉ ([main_c, main_v3, main_v4, main_v5, main_c_0, main_v6, main_v7, main_v8] : List (Ref sig .tc))) :
    W3 m d (Proc.devRef .tc b) = W2 m d (Proc.devRef .tc b) :=
  StableHlo.after_of_forall_not_mem (b := Proc.devRef .tc b) _ _ (List.forall_iff_forall_mem.mp (by
    simp only [List.mem_cons, List.not_mem_nil, or_false, not_or] at h
    obtain ⟨h1, h2, h3, h4, h5, h6, h7, h8⟩ := h
    simp only [List.Forall, StableHlo.nullary_writes, StableHlo.unary_writes, StableHlo.binary_writes, Finset.mem_singleton]
    exact ⟨StableHlo.devRef_ne_of_ne h1, StableHlo.devRef_ne_of_ne h2, StableHlo.devRef_ne_of_ne h3, StableHlo.devRef_ne_of_ne h4,
      StableHlo.devRef_ne_of_ne h5, StableHlo.devRef_ne_of_ne h6, StableHlo.devRef_ne_of_ne h7, StableHlo.devRef_ne_of_ne h8⟩))

/-- The SparseCore call changes only the caption numbers. -/
theorem W4_of (d : Dev nD) (b : Ref sig .tc) (h : b ≠ main_v9) : W4 m d (Proc.devRef .tc b) = W3 m d (Proc.devRef .tc b) :=
  Function.update_of_ne (StableHlo.devRef_ne_of_ne h) _ _

/-- After the SparseCore call the caption numbers are its result. -/
theorem W4_cap (d : Dev nD) : W4 m d (Proc.devRef .tc main_v9) = capOut m d := Function.update_self _ _ _

/-- The last reshape changes only its result. -/
theorem W5_of (d : Dev nD) (b : Ref sig .tc) (h : b ≠ main_v10) : W5 m d (Proc.devRef .tc b) = W4 m d (Proc.devRef .tc b) :=
  StableHlo.after_of_forall_not_mem (b := Proc.devRef .tc b) _ _ (List.forall_iff_forall_mem.mp (by
    simp only [List.Forall, StableHlo.reshape_writes, Finset.mem_singleton]
    exact StableHlo.devRef_ne_of_ne h))

/-- The call starts with the lengths and the segment numbers' buffer as launched. -/
theorem W3_len (d : Dev nD) : W3 m d (Proc.devRef .tc main_arg1) = m (lLoc d) :=
  (W3_of m d main_arg1 (by decide)).trans ((W2_of m d main_arg1 (by decide)).trans (W1_of m d main_arg1 (by decide) (by decide)))
/-- The SparseCore call finds its result's array as launched. -/
theorem W3_cap (d : Dev nD) : W3 m d (Proc.devRef .tc main_v9) = m (cLoc d) :=
  (W3_of m d main_v9 (by decide)).trans ((W2_of m d main_v9 (by decide)).trans (W1_of m d main_v9 (by decide) (by decide)))

/-- @main ends with its arguments as launched. -/
theorem W5_arg0 (d : Dev nD) : W5 m d (Proc.devRef .tc main_arg0) = m (d, Proc.devRef .tc main_arg0) :=
  (W5_of m d main_arg0 (by decide)).trans ((W4_of m d main_arg0 (by decide)).trans ((W3_of m d main_arg0 (by decide)).trans
    ((W2_of m d main_arg0 (by decide)).trans (W1_of m d main_arg0 (by decide) (by decide)))))
/-- The lengths end as launched. -/
theorem W5_arg1 (d : Dev nD) : W5 m d (Proc.devRef .tc main_arg1) = m (d, Proc.devRef .tc main_arg1) :=
  (W5_of m d main_arg1 (by decide)).trans ((W4_of m d main_arg1 (by decide)).trans (W3_len m d))
/-- The weights end as launched. -/
theorem W5_arg2 (d : Dev nD) : W5 m d (Proc.devRef .tc main_arg2) = m (d, Proc.devRef .tc main_arg2) :=
  (W5_of m d main_arg2 (by decide)).trans ((W4_of m d main_arg2 (by decide)).trans ((W3_of m d main_arg2 (by decide)).trans
    ((W2_of m d main_arg2 (by decide)).trans (W1_of m d main_arg2 (by decide) (by decide)))))
/-- The bias ends as launched. -/
theorem W5_arg3 (d : Dev nD) : W5 m d (Proc.devRef .tc main_arg3) = m (d, Proc.devRef .tc main_arg3) :=
  (W5_of m d main_arg3 (by decide)).trans ((W4_of m d main_arg3 (by decide)).trans ((W3_of m d main_arg3 (by decide)).trans
    ((W2_of m d main_arg3 (by decide)).trans (W1_of m d main_arg3 (by decide) (by decide)))))

/-! ## What the launch starts from -/

/-- The pipeline's rounds on core `d`. -/
abbrev G (d : Dev nD) : sProp 𝕄 :=
  iprop(cellsGhost (pin (pcfgs (F := F)) adm) EP 0 d ∗ toksInit (pin (pcfgs (F := F)) adm) EP 0 d)

/-- Distinct cells of the pipeline's protocol lie at distinct counters. -/
theorem inj : Function.Injective (cellOf (nD := nD) (τ := τ) (pin (pcfgs (F := F)) adm)) := launch0.toP.cellOf_inj adm

/-- The algebra's start: the handshakes' rounds, the pipeline's, no counter. -/
def u₀ : UU := (initOf (K (F := F)).hsCells (K (F := F)).hsToks,
  (initOf (cells (pin (pcfgs (F := F)) adm) inj) (launchToks (pin (pcfgs (F := F)) adm) inj), 1))

/-- Nothing, many times over, is nothing. -/
theorem emp_all {I : Type} (s : Finset I) : (bigSep s fun _ => iprop(emp)) = (iprop(emp) : sProp 𝕄) := bigSep_emp_const s

/-- The start of the algebra hands out the handshakes' rounds and the pipeline's. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hg : (BI.own (((Emb.inl : Emb UP (UP × Counters)).trans (embR (A := UH) (B := UP × Counters) (nD := nD) (sig := sig) (Ix := HIx 1) (Val := Elt F) (Name := ℕ) (Lvl := ℕ))) (initOf (cells (pin (pcfgs (F := F)) adm) inj) (launchToks (pin (pcfgs (F := F)) adm) inj))) : sProp 𝕄)
      ⊢ iprop(|==> bigSep Finset.univ fun d : Dev nD => G (F := F) d) := by
    refine (fund_ghost (pin (pcfgs (F := F)) adm) EP inj).trans (Entails.of_eq ?_)
    congr 1
    rw [bigSep_sep' (Finset.univ : Finset (Dev nD))]
    exact congrArg₂ _ (bigSep_congr fun _ _ => bigSep_univ_of_subsingleton (0 : Fin 1)) (bigSep_congr fun _ _ => bigSep_univ_of_subsingleton (0 : Fin 1))
  unfold u₀
  iintro Hu
  ihave H := (ownU_pair (initOf (K (F := F)).hsCells (K (F := F)).hsToks) (_ : UP × Counters)) $$ Hu
  icases H with ⟨HH, HR⟩
  ihave H2 := (own_pair_emb (embR (A := UH) (B := UP × Counters) (nD := nD) (sig := sig) (Ix := HIx 1) (Val := Elt F) (Name := ℕ) (Lvl := ℕ)) _ (1 : Counters)) $$ HR
  icases H2 with ⟨HP, -⟩
  imod hg $$ HP with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_all]
  iempintro

/-! ## @main on the TensorCore -/

/-- What the call is given: the lengths and the caption numbers' array, split between the SparseCores. -/
theorem st_eq (d : Dev nD) : iprop(lPts d fullShare (m (lLoc d)) ∗ cLoc d ↦{fullShare} m (cLoc d))
    = (bigSep Finset.univ fun c : Fin ((K (F := F)).nCore 0) => (P m).st 0 d c : sProp 𝕄) := whole_split m d (m (cLoc d))
/-- What the call gives back: the lengths and the caption numbers, joined from the SparseCores. -/
theorem dn_eq (d : Dev nD) : iprop(lPts d fullShare (m (lLoc d)) ∗ cLoc d ↦{fullShare} capOut m d)
    = (bigSep Finset.univ fun c : Fin ((K (F := F)).nCore 0) => (P m).dn 0 d c : sProp 𝕄) := whole_split m d (capOut m d)

/-- The two buffers the call works on. -/
abbrev callRefs : Finset (DevRef τ sig) := {Proc.devRef .tc main_arg1, Proc.devRef .tc main_v9}

/-- The call's two buffers are among those @main holds. -/
theorem callRefs_sub : callRefs ⊆ ucRefs τ sig := by
  intro b hb
  rcases Finset.mem_insert.mp hb with rfl | hb
  · exact Finset.mem_filter.mpr ⟨StableHlo.devRef_mem_tcRefs _, by decide⟩
  · rw [Finset.mem_singleton.mp hb]; exact Finset.mem_filter.mpr ⟨StableHlo.devRef_mem_tcRefs _, by decide⟩

/-- Holding the call's two buffers is holding the lengths and the caption numbers. -/
theorem held_callRefs (d : Dev nD) (W : Valuation τ sig (Elt F)) :
    (StableHlo.held (d.tc : Thread nD τ) callRefs W : sProp 𝕄)
      = iprop(lPts d fullShare (W (Proc.devRef .tc main_arg1)) ∗ cLoc d ↦{fullShare} W (Proc.devRef .tc main_v9)) := by
  unfold StableHlo.held callRefs
  rw [bigSep_insert (by rw [Finset.mem_singleton]; exact StableHlo.devRef_ne_of_ne (by decide)), bigSep_singleton]
  rfl

/-- The unscoped buffers at the call's start, the call's two apart; -/
theorem held_W3 (d : Dev nD) : (StableHlo.held (d.tc : Thread nD τ) (ucRefs τ sig) (W3 m d) : sProp 𝕄)
    = iprop((bigSep Finset.univ fun c : Fin ((K (F := F)).nCore 0) => (P m).st 0 d c)
      ∗ StableHlo.held (d.tc : Thread nD τ) (ucRefs τ sig \ callRefs) (W3 m d)) := by
  rw [StableHlo.held_sub_split (d.tc : Thread nD τ) callRefs_sub, held_callRefs, W3_len, W3_cap, st_eq]

/-- and at its end. -/
theorem held_W4 (d : Dev nD) : (StableHlo.held (d.tc : Thread nD τ) (ucRefs τ sig) (W4 m d) : sProp 𝕄)
    = iprop((bigSep Finset.univ fun c : Fin ((K (F := F)).nCore 0) => (P m).dn 0 d c)
      ∗ StableHlo.held (d.tc : Thread nD τ) (ucRefs τ sig \ callRefs) (W3 m d)) := by
  rw [StableHlo.held_sub_split (d.tc : Thread nD τ) callRefs_sub, held_callRefs, W4_of m d main_arg1 (by decide), W3_len, W4_cap, dn_eq,
    StableHlo.held_congr (d.tc : Thread nD τ) (S := ucRefs τ sig \ callRefs) (V := W4 m d) (V' := W3 m d) fun b hb =>
      Function.update_of_ne (fun e => (Finset.mem_sdiff.mp hb).2 (by rw [e]; exact Finset.mem_insert_of_mem (Finset.mem_singleton_self _))) _ _]

/-- The operations stay within the buffers @main holds. -/
theorem ops0_sub : ∀ op ∈ (ops0 : List (HloOp τ sig (Elt F))), op.bufs ⊆ ucRefs τ sig := fun op h =>
  sub_ucRefs op (List.forall_iff_forall_mem.mp (show (ops0 : List (HloOp τ sig (Elt F))).Forall fun op => op.bufs ⊆ StableHlo.tcRefs τ sig from
    ⟨StableHlo.reshape_bufs_sub .., StableHlo.reshape_bufs_sub ..⟩) op h)
/-- The operations stay within the buffers @main holds. -/
theorem ops1_sub : ∀ op ∈ (ops1 : List (HloOp τ sig (Elt F))), op.bufs ⊆ ucRefs τ sig := fun op h =>
  sub_ucRefs op (List.forall_iff_forall_mem.mp (show (ops1 : List (HloOp τ sig (Elt F))).Forall fun op => op.bufs ⊆ StableHlo.tcRefs τ sig from
    ⟨StableHlo.nullary_bufs_sub .., StableHlo.unary_bufs_sub .., StableHlo.binary_bufs_sub .., StableHlo.unary_bufs_sub ..,
      StableHlo.nullary_bufs_sub .., StableHlo.unary_bufs_sub .., StableHlo.binary_bufs_sub .., StableHlo.unary_bufs_sub ..⟩) op h)
/-- The operations stay within the buffers @main holds. -/
theorem ops2_sub : ∀ op ∈ (ops2 : List (HloOp τ sig (Elt F))), op.bufs ⊆ ucRefs τ sig := fun op h =>
  sub_ucRefs op (List.forall_iff_forall_mem.mp (show (ops2 : List (HloOp τ sig (Elt F))).Forall fun op => op.bufs ⊆ StableHlo.tcRefs τ sig from
    StableHlo.reshape_bufs_sub ..) op h)
/-- The operations allocate nothing. -/
theorem ops0_fresh : ∀ op ∈ (ops0 : List (HloOp τ sig (Elt F))), op.fresh = ∅ := List.forall_iff_forall_mem.mp (by
  simp only [List.Forall]; repeat' constructor)
/-- The operations allocate nothing. -/
theorem ops1_fresh : ∀ op ∈ (ops1 : List (HloOp τ sig (Elt F))), op.fresh = ∅ := List.forall_iff_forall_mem.mp (by
  simp only [List.Forall]; repeat' constructor)
/-- The operations allocate nothing. -/
theorem ops2_fresh : ∀ op ∈ (ops2 : List (HloOp τ sig (Elt F))), op.fresh = ∅ := List.forall_iff_forall_mem.mp (by
  simp only [List.Forall]; repeat' constructor)

/-- What @main leaves on core `d`. -/
abbrev FIN (d : Dev nD) : sProp 𝕄 := StableHlo.held (d.tc : Thread nD τ) (ucRefs τ sig) (W5 m d)

set_option backward.isDefEq.respectTransparency.types false in
/-- The region's call, below the SparseCore's labels. -/
theorem region_wp [∀ e, Nonempty (Elt F e)] (d : Dev nD) (Q : PUnit → sProp 𝕄) :
    iprop((iprop(boundary (d.tc : Thread nD τ) ∗ StableHlo.held (d.tc : Thread nD τ) (ucRefs τ sig) (W2 m d) ∗ owing (F := F) d) -∗ Q ⟨⟩)
        ∗ boundary (d.tc : Thread nD τ) ∗ iprop(StableHlo.held (d.tc : Thread nD τ) (ucRefs τ sig) (W1 m d) ∗ owing (F := F) d)
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  have hwp : iprop((iprop(boundary (d.tc : Thread nD τ) ∗ StableHlo.held (d.tc : Thread nD τ) (ucRefs τ sig) (W2 m d) ∗ owing (F := F) d)
          -∗ wp frame (wpE (D (F := F)) 𝒱 (d.tc : Thread nD τ) none) Set.univ (.ret ⟨⟩) Q)
        ∗ boundary (d.tc : Thread nD τ) ∗ iprop(StableHlo.held (d.tc : Thread nD τ) (ucRefs τ sig) (W1 m d) ∗ owing (F := F) d)
        ∗ levAts (K (F := F)).L (K (F := F)).lev ∗ G (F := F) d)
      ⊢ wp frame (wpE (D (F := F)) 𝒱 (d.tc : Thread nD τ) none) Set.univ (.op (.customCall (Pipeline.entry 0) ()) .ret) Q :=
    (region (W1 m)).wp (pcfgs (F := F)) adm (dats (W1 m)) none inj EP defs₀ Variants.none (K (F := F)).L (K (F := F)).lev d none
      (fun _ h => nomatch h) .ret Q
  have hl := (K (F := F)).wp_liftProg (D (F := F)) 𝒱 (SparseCore.T d) Set.univ none (.op (.customCall (Pipeline.entry 0) ()) .ret) Q
  rw [SparseCore.liftProg_op] at hl
  refine BIBase.Entails.trans (BIBase.Entails.trans ?_ hwp) hl
  iintro ⟨Hk, H⟩
  isplitl [Hk]
  · iintro H1
    rw [wp_ret]
    imodintro
    iapply Hk $$ H1
  iexact H

/-- The core's state before the call: what it owes, -/
abbrev restSt (d : Dev nD) : sProp 𝕄 :=
  iprop(atPos EH ((K (F := F)).doneCell d) 0 ∅ 0 ∗ Rounds.reached EH ((K (F := F)).doneCell d) 0
    ∗ (bigSep Finset.univ fun c : Fin τ.nSC => Rounds.reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))
/-- and the rest. -/
theorem tcSt_zero (d : Dev nD) : ((K (F := F)).tcSt EH d 0 : sProp 𝕄) = iprop(owing (F := F) d ∗ restSt (F := F) d) := by
  unfold SparseCore.Cfg.tcSt; rfl

set_option backward.isDefEq.respectTransparency.types false in
/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (d.tc : Thread nD τ) (ucRefs τ sig) (fun b => m (d, b)) from
    unscopedBufs_held d (fun b => m (d, b)), main_eq]
  iintro ⟨#Hctx, Hst, ⟨Hb, Hu, Hts, -⟩, HG⟩
  iapply (StableHlo.wp_seq 𝒱 none Set.univ d (ucRefs τ sig) _ ops0 ops0_sub ops0_fresh (fun b => m (d, b))) $$ [Hb Hu]
  · isplitl [Hb] <;> iassumption
  rw [show StableHlo.after ops0 (fun b => m (d, b)) = W1 m d from rfl, wp_bind]
  iintro ⟨Hb, Hu⟩
  ihave Hlev := (SparseCore.Cfg.ctx_levAts κ) $$ Hctx
  ihave Hst' := (Entails.of_eq (tcSt_zero d)) $$ Hst
  icases Hst' with ⟨HO, Hst⟩
  iapply (region_wp m d)
  isplitr [Hb Hu HO HG]
  swap
  · isplitl [Hb]; · iexact Hb
    isplitl [Hu HO]
    · isplitl [Hu]; · iexact Hu
      iexact HO
    isplitr; · iexact Hlev
    iexact HG
  iintro ⟨Hb, Hu, HO⟩
  iapply (StableHlo.wp_seq 𝒱 none Set.univ d (ucRefs τ sig) _ ops1 ops1_sub ops1_fresh (W2 m d)) $$ [Hb Hu]
  · isplitl [Hb] <;> iassumption
  rw [show StableHlo.after ops1 (W2 m d) = W3 m d from rfl]
  iintro ⟨Hb, Hu⟩
  ihave Hu' := (Entails.of_eq (held_W3 m d)) $$ Hu
  icases Hu' with ⟨Hcall, Hu⟩
  rw [wp_bind]
  iapply ((K (F := F)).wp_run (D (F := F)) 𝒱 (EH := EH) (P := P m) κ d 0) $$ [Hst HO Hcall Hu Hb Hts]
  isplitr; · iexact Hctx
  isplitl [Hst HO]
  · iapply (Entails.of_eq (tcSt_zero (F := F) d).symm)
    isplitl [HO]; · iexact HO
    iexact Hst
  isplitl [Hcall]; · iexact Hcall
  iintro ⟨Hst, Hdn⟩
  ihave Hu' := (Entails.of_eq (held_W4 m d).symm) $$ [Hdn Hu]
  · isplitl [Hdn] <;> iassumption
  iapply (StableHlo.wp_seq 𝒱 none Set.univ d (ucRefs τ sig) _ ops2 ops2_sub ops2_fresh (W4 m d)) $$ [Hb Hu']
  · isplitl [Hb] <;> iassumption
  rw [show StableHlo.after ops2 (W4 m d) = W5 m d from rfl, wp_pure]
  iintro ⟨Hb, Hu⟩
  imodintro
  isplitl [Hst]; · iexact Hst
  isplitl [Hu]; · iexact Hu
  isplitl [Hb] <;> iassumption

/-! ## The program's run -/

def fq (d : Dev nD) (s' : Phys nD τ sig (Elt F)) : Prop := ∀ b ∈ ucRefs τ sig, s'.mem.mem (d, b) = W5 m d b

/-- What the threads hold at the end says what memory holds. -/
theorem hfin (d : Dev nD) (s' : Phys nD τ sig (Elt F)) : iprop(FIN m d ∗ SI s') ⊢ (⌜fq m d s'⌝ : sProp 𝕄) := by
  show iprop((bigSep (ucRefs τ sig) fun b => (d, b) ↦{fullShare} W5 m d b) ∗ SI s') ⊢ _
  iintro ⟨HF, HS⟩
  iapply (SI_pointsTo_bufs_agree (st := s') (c := d) (qs := fun _ => fullShare) (F := W5 m d) (ucRefs τ sig))
  isplitl [HS]; · iexact HS
  iexact HF

/-- Every unscoped buffer at its final contents, every counter at zero. -/
def QC : PUnit × MemSt nD τ sig (Elt F) → Prop := fun r =>
  (∀ d : Dev nD, ∀ b ∈ ucRefs τ sig, r.2.mem (d, b) = W5 m d b) ∧ r.2.sem = fun _ => 0

/-- Every run ends, with each array as described and every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

/-- The buffer `b` of @main is unscoped. -/
theorem mem_uc (b : Ref sig .tc) (h : b.isScoped = false) : Proc.devRef .tc b ∈ ucRefs τ sig :=
  Finset.mem_filter.mpr ⟨StableHlo.devRef_mem_tcRefs _, fun h' => Bool.false_ne_true (h.symm.trans h')⟩

/-- The arguments end as launched, and every counter is zero. -/
theorem run_args [∀ e, Nonempty (Elt F e)] :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (Cert.KernelIdeal.defs (F := F)) _ _).mono (fun _ h => ⟨fun c =>
    ⟨(h.1 c _ (mem_uc main_arg0 (by decide))).trans (W5_arg0 m c), (h.1 c _ (mem_uc main_arg1 (by decide))).trans (W5_arg1 m c),
      (h.1 c _ (mem_uc main_arg2 (by decide))).trans (W5_arg2 m c), (h.1 c _ (mem_uc main_arg3 (by decide))).trans (W5_arg3 m c)⟩, h.2⟩)
    (run_main m ρ)

end Cert.KernelIdeal.Run

end
-- ==== Proof.Frames.lean ====
/-
  The claims that speak of no value: each program ends with its arguments as they were and every counter at zero,
  and the named constant is the number its name says.
-/
module

public import proofs.«01_k».proof.Defs
public import proofs.«01_k».proof.Proof.Bits.Launch
public import proofs.«01_k».proof.Proof.Ideal.Launch
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The kernel, at machine floats, leaves its arguments alone and every counter at zero. -/
theorem frame_kernel : Cert.quiescent_Kernel := fun m ρ _ => Cert.Kernel.Run.run_args m ρ

/-- The kernel, at exact arithmetic, leaves its arguments alone and every counter at zero. -/
theorem frame_ideal : Cert.quiescent_KernelIdeal := fun m ρ _ => Cert.KernelIdeal.Run.run_args m ρ

/-- The reference leaves its arguments alone and every counter at zero. -/
theorem frame_reference : Cert.quiescent_ReferenceIdeal := fun m ρ _ =>
  (θ_run Cert.ReferenceIdeal.defs _ _).mono (fun r h => ⟨fun c => ⟨(h c).2.2.2.2.2.1, (h c).2.2.2.2.2.2.1, (h c).2.2.2.2.2.2.2.1, (h c).2.2.2.2.2.2.2.2⟩,
      Idealize.ShloMosaic.sem_eq_zero_of_no_sems (by decide) r.2⟩)
    (Cert.ReferenceIdeal.Value.run (F := Ideal) m ρ)

/-- The one constant named: minus the logarithm of ten thousand, over sixty-four. -/
theorem preserves : Cert.preserves_Kernel_KernelIdeal :=
  IdealRules.named_const.statement Cert.KernelIdeal.κ "log_step" .f32 0xBE135D8E#32 (((-(Real.log 10000)) * 64⁻¹ : ℝ) : EReal) rfl

end Cert.Proof

end
-- ==== Proof.Pack.lean ====
/-
  Packing sixteen segments of sixty-four places, of which the first `len n` of segment `n` are tokens: where each segment
  starts in the packed sequence, which segment and place a packed position comes from, and that a stable sort of
  "is no token" lists the tokens in just that order.
-/
module

public import Idealize.ShloMosaic.Lib.SortPrefix
public import Mathlib.Data.Nat.Count
public import Mathlib.Algebra.BigOperators.Fin
public import Mathlib.Algebra.Order.BigOperators.Group.Finset

@[expose] public section

namespace Cert.Pack

open Idealize.ShloMosaic

/-- Where segment `n` starts: the lengths before it, added. -/
def start (len : ℕ → ℕ) (n : ℕ) : ℕ := ∑ m ∈ Finset.range n, len m

/-- How many of `start 1, …, start n` the position `l` has reached. -/
def upto (len : ℕ → ℕ) (l : ℕ) : ℕ → ℕ
  | 0 => 0
  | n + 1 => if start len (n + 1) ≤ l then upto len l n + 1 else upto len l n

/-- The segment of packed position `l`. -/
def cap (len : ℕ → ℕ) (l : ℕ) : ℕ := upto len l 15

/-- The place in its segment. -/
def pos (len : ℕ → ℕ) (l : ℕ) : ℕ := l - start len (cap len l)

/-- Where packed position `l` lies among all the places. -/
def src (len : ℕ → ℕ) (l : ℕ) : ℕ := 64 * cap len l + pos len l

/-- Place `p` holds a token. -/
def Tok (len : ℕ → ℕ) (p : ℕ) : Prop := p % 64 < len (p / 64)

instance (len : ℕ → ℕ) : DecidablePred (Tok len) := fun p => inferInstanceAs (Decidable (p % 64 < len (p / 64)))

variable {len : ℕ → ℕ}

/-- Each segment begins where the one before ends. -/
theorem start_succ (n : ℕ) : start len (n + 1) = start len n + len n := Finset.sum_range_succ ..

/-- Later segments begin no earlier. -/
theorem start_mono {a b : ℕ} (h : a ≤ b) : start len a ≤ start len b :=
  Finset.sum_le_sum_of_subset (Finset.range_mono h)

/-- The first `n` segments hold at most `64 n` tokens. -/
theorem start_le (hlen : ∀ n, len n ≤ 64) (n : ℕ) : start len n ≤ 64 * n := by
  induction n with
  | zero => simp [start]
  | succ n ih => rw [start_succ]; have := hlen n; omega

/-- The count stops at a segment that starts at or before `l`, the next one after it. -/
theorem upto_spec (l n : ℕ) :
    upto len l n ≤ n ∧ start len (upto len l n) ≤ l ∧ (upto len l n < n → l < start len (upto len l n + 1)) := by
  induction n with
  | zero => simp [upto, start]
  | succ n ih =>
    obtain ⟨h1, h2, h3⟩ := ih
    unfold upto
    by_cases h : start len (n + 1) ≤ l
    · rw [if_pos h]
      have e : upto len l n = n := by
        by_contra hne
        have hlt : upto len l n < n := by omega
        have := h3 hlt
        have := start_mono (len := len) (show upto len l n + 1 ≤ n + 1 by omega)
        omega
      rw [e]
      exact ⟨le_rfl, h, fun hh => absurd hh (lt_irrefl _)⟩
    · rw [if_neg h]
      refine ⟨by omega, h2, fun _ => ?_⟩
      by_cases hh : upto len l n < n
      · exact h3 hh
      · rw [show upto len l n = n by omega]; omega

/-- The segment is one of sixteen. -/
theorem cap_le (l : ℕ) : cap len l ≤ 15 := (upto_spec l 15).1
/-- A position's segment begins at or before it. -/
theorem start_cap_le (l : ℕ) : start len (cap len l) ≤ l := (upto_spec l 15).2.1
/-- A token's segment ends after it. -/
theorem lt_start_cap {l : ℕ} (hl : l < start len 16) : l < start len (cap len l + 1) := by
  by_cases h : cap len l < 15
  · exact (upto_spec l 15).2.2 h
  · rw [show cap len l = 15 by have := cap_le (len := len) l; omega]; exact hl

/-- A token's place is less than its segment's length. -/
theorem pos_lt {l : ℕ} (hl : l < start len 16) : pos len l < len (cap len l) := by
  have h1 := lt_start_cap hl
  have h2 := start_cap_le (len := len) l
  rw [start_succ] at h1
  unfold pos; omega

/-- A token's place is less than 64. -/
theorem pos_lt_64 (hlen : ∀ n, len n ≤ 64) {l : ℕ} (hl : l < start len 16) : pos len l < 64 :=
  (pos_lt hl).trans_le (hlen _)

/-- The place among all the places tells the segment. -/
theorem src_div (hlen : ∀ n, len n ≤ 64) {l : ℕ} (hl : l < start len 16) : src len l / 64 = cap len l := by
  have := pos_lt_64 hlen hl; unfold src; omega
/-- The place among all the places tells the place in the segment. -/
theorem src_mod (hlen : ∀ n, len n ≤ 64) {l : ℕ} (hl : l < start len 16) : src len l % 64 = pos len l := by
  have := pos_lt_64 hlen hl; unfold src; omega
/-- There are 1024 places. -/
theorem src_lt (hlen : ∀ n, len n ≤ 64) {l : ℕ} (hl : l < start len 16) : src len l < 1024 := by
  have := pos_lt_64 hlen hl; have := cap_le (len := len) l; unfold src; omega

/-- A packed position reads a token. -/
theorem src_tok (hlen : ∀ n, len n ≤ 64) {l : ℕ} (hl : l < start len 16) : Tok len (src len l) := by
  unfold Tok; rw [src_mod hlen hl, src_div hlen hl]; exact pos_lt hl

/-- The tokens among the first `r` places of segment `c`. -/
theorem count_seg (c r : ℕ) (hr : r ≤ 64) : Nat.count (fun k => Tok len (64 * c + k)) r = min r (len c) := by
  induction r with
  | zero => simp
  | succ r ih =>
    rw [Nat.count_succ, ih (by omega)]
    have e : Tok len (64 * c + r) ↔ r < len c := by
      unfold Tok; rw [show (64 * c + r) % 64 = r by omega, show (64 * c + r) / 64 = c by omega]
    by_cases h : r < len c
    · rw [if_pos (e.2 h)]; omega
    · rw [if_neg fun hh => h (e.1 hh)]; omega

/-- The tokens before segment `c` are those of the segments before it. -/
theorem count_start (hlen : ∀ n, len n ≤ 64) (c : ℕ) : Nat.count (Tok len) (64 * c) = start len c := by
  induction c with
  | zero => simp [start]
  | succ c ih =>
    rw [show 64 * (c + 1) = 64 * c + 64 by omega, Nat.count_add, ih, count_seg c 64 le_rfl, start_succ, min_eq_right (hlen c)]

/-- Before the place that packed position `l` comes from there are `l` tokens. -/
theorem count_src (hlen : ∀ n, len n ≤ 64) {l : ℕ} (hl : l < start len 16) : Nat.count (Tok len) (src len l) = l := by
  have h1 := pos_lt hl
  have h2 := hlen (cap len l)
  have h3 := start_cap_le (len := len) l
  unfold src
  rw [Nat.count_add, count_start hlen, count_seg _ _ (by omega), min_eq_left (by omega)]
  unfold pos; omega

/-- Packing keeps the order. -/
theorem src_lt_src (hlen : ∀ n, len n ≤ 64) {i j : ℕ} (hi : i < start len 16) (hj : j < start len 16) (hij : i < j) :
    src len i < src len j := by
  by_contra h
  have := Nat.count_monotone (Tok len) (not_lt.1 h)
  rw [count_src hlen hi, count_src hlen hj] at this
  omega

/-- Packing repeats no token. -/
theorem src_inj (hlen : ∀ n, len n ≤ 64) {i j : ℕ} (hi : i < start len 16) (hj : j < start len 16) (h : src len i = src len j) :
    i = j := by
  rw [← count_src hlen hi, h, count_src hlen hj]

/-- Every token is some packed position's. -/
theorem exists_src (hlen : ∀ n, len n ≤ 64) {p : ℕ} (hp : p < 1024) (ht : Tok len p) : ∃ l < start len 16, src len l = p := by
  have hl : Nat.count (Tok len) p < start len 16 := by
    rw [← count_start hlen 16]; exact Nat.count_strict_mono ht hp
  exact ⟨_, hl, Nat.count_injective (src_tok hlen hl) ht (count_src hlen hl)⟩

/-! ## The stable sort -/

/-- A stable sort of increasing positions by a key is the sort by the key and, among equals, the position. -/
theorem stableSort_tie {n : ℕ} {κ : Type} [DecidableEq κ] (lt : κ → κ → Bool) (key : Fin n → κ) (l : List (Fin n)) (hl : l.Pairwise (· < ·)) :
    stableSort (fun k k' => lt (key k) (key k')) l
      = stableSort (fun k k' => lt (key k) (key k') || (decide (key k = key k') && decide (k < k'))) l := by
  induction l with
  | nil => rfl
  | cons a l ih =>
    rw [List.pairwise_cons] at hl
    unfold stableSort
    rw [← ih hl.2]
    refine insertBefore_congr _ _ _ _ fun b hb => ?_
    have hab : a < b := hl.1 b ((perm_stableSort _ l).mem_iff.1 hb)
    have : ¬ b < a := not_lt.2 hab.le
    simp [this]

/-- A stable sort of the indices is a sort in which ties go by index. -/
theorem sortedFrom_tie {n : ℕ} {κ : Type} [DecidableEq κ] (lt : κ → κ → Bool) (key : Fin n → κ) (k : Fin n) :
    sortedFrom (fun k k' => lt (key k) (key k')) k
      = sortedFrom (fun k k' => lt (key k) (key k') || (decide (key k = key k') && decide (k < k'))) k := by
  unfold sortedFrom
  rw [List.get_of_eq (show sortPositions n (fun k k' => lt (key k) (key k')) = sortPositions n _ from
    stableSort_tie lt key _ (List.pairwise_lt_finRange n))]
  rfl

attribute [local irreducible] start src

/-- The stable sort of "is no token" puts at position `l`, of the tokens, the place that packed position `l` comes from. -/
theorem sortedFrom_src {N : ℕ} (hN : N = 1024) (hlen : ∀ n, len n ≤ 64) (key : Fin N → BitVec 1) (hkey : ∀ p, key p = if Tok len p.val then 0#1 else 1#1)
    (l : Fin N) (hl : l.val < start len 16) :
    (sortedFrom (fun k k' => decide ((key k).toNat < (key k').toNat)) l).val = src len l.val := by
  have hT : start len 16 ≤ N := by have := start_le hlen 16; omega
  rw [sortedFrom_tie (fun a b : BitVec 1 => decide (a.toNat < b.toNat)) key l]
  have hB := StrictTotalBefore.of_key_then_position (fun a b : BitVec 1 => decide (a.toNat < b.toNat)) key
    (fun a => by simp) (fun a b c => by simp only [decide_eq_true_eq]; omega)
    (fun a b => by
      simp only [decide_eq_true_eq]
      rcases lt_trichotomy a.toNat b.toNat with h | h | h
      · exact Or.inl h
      · exact Or.inr (Or.inl (BitVec.eq_of_toNat_eq h))
      · exact Or.inr (Or.inr h))
  let σ : Fin (start len 16) → Fin N := fun i => ⟨src len i.val, by have := src_lt hlen i.isLt; omega⟩
  have hσ : ∀ i, key (σ i) = 0#1 := fun i => by rw [hkey, if_pos (src_tok hlen i.isLt)]
  have := hB.sortedFrom_eq_of_prefix hT σ
    (fun i j h => Fin.ext (src_inj hlen i.isLt j.isLt (Fin.ext_iff.1 h)))
    (fun i j hij => by
      have : ¬ σ j < σ i := not_lt.2 (src_lt_src hlen i.isLt j.isLt hij).le
      simp [hσ, this])
    (fun i p hp => by
      have hk : key p = 1#1 := by
        rw [hkey, if_neg]
        intro ht
        obtain ⟨l, hl, e⟩ := exists_src hlen (by have := p.isLt; omega) ht
        exact hp ⟨l, hl⟩ (Fin.ext e)
      simp [hσ, hk])
    ⟨l.val, hl⟩
  rw [show (⟨l.val, hl⟩ : Fin (start len 16)).castLE hT = l from Fin.ext rfl] at this
  exact congrArg Fin.val this

end Cert.Pack
-- ==== Proof.Ref.Tokens.lean ====
/-
  The integer arrays of the reference, as functions of the lengths, and what each holds: which places are tokens, how many
  there are, the stable order of the places with the tokens first, and the segment and place each packed position reads.
-/
module

public import proofs.«01_k».proof.Proof.Pack
public import proofs.«01_k».proof.Proof.Gen.ReferenceIdeal.Run
public import Idealize.ShloMosaic.Lib.ValueIdx
public import Idealize.ShloMosaic.Lib.Pipeline.Value
public import Idealize.ShloMosaic.Lib.Pointwise.Reshape
public import Idealize.ShloMosaic.Lib.IndicatorCount
public import Idealize.ShloMosaic.Lib.WordCmp

@[expose] public section

set_option maxRecDepth 16384

noncomputable section

namespace Cert.Ref

open Cert.ReferenceIdeal Cert.ReferenceIdeal.Gen Cert.Pack
open Idealize.ShloMosaic hiding ix1 ix2 ix3
open Idealize.ShloMosaic.TcCoe
open Idealize.ShloMosaic.ValueIdx

abbrev Lens := IVec S8x16 32

/-- Row `b`'s lengths as numbers. -/
def lenOf (ln : Lens) (b : Fin 8) (n : ℕ) : ℕ := (ln (ix2 b (Fin.ofNat 16 n))).toNat

/-- Every length fits its segment. -/
def InRange (ln : Lens) : Prop := ∀ i, (ln i).toNat ≤ 64

/-- Each length, as a number, is at most 64. -/
theorem InRange.le {ln : Lens} (h : InRange ln) (b : Fin 8) (n : ℕ) : lenOf ln b n ≤ 64 := h _

/-- Which of the 1024 places hold a token. -/
def tok (ln : Lens) : IVec S8x1024 1 :=
  shapeCast _ (cmpi .slt (broadcastInDim S8x16x64 ![0, 1, 2] bcast_S1x1x64_S8x16x64_0_1_2 (broadcastInDim S1x1x64 ![2] bcast_S64_S1x1x64_2 (iotaInDim S64 32 0)))
    (broadcastInDim S8x16x64 ![0, 1, 2] bcast_S8x16x1_S8x16x64_0_1_2 (broadcastInDim S8x16x1 ![0, 1] bcast_S8x16_S8x16x1_0_1 ln))) shapeCasts_S8x16x64_S8x1024

/-- How many tokens each row has. -/
def total (ln : Lens) : IVec S8 32 :=
  Host.reduce IntOp.addi (extui 32 (tok ln) natLt_1_32) (constantI S_ 32 0#32) reducesTo_S8x1024_S8_d1 h_S_

/-- The packed positions that hold a token. -/
def live (ln : Lens) : IVec S8x1024 1 :=
  cmpi .slt (broadcastInDim S8x1024 ![0, 1] bcast_S1x1024_S8x1024_0_1 (broadcastInDim S1x1024 ![1] bcast_S1024_S1x1024_1 (iotaInDim S1024 32 0)))
    (broadcastInDim S8x1024 ![0, 1] bcast_S8x1_S8x1024_0_1 (broadcastInDim S8x1 ![0] bcast_S8_S8x1_0 (total ln)))

/-- The places, tokens first. -/
def order (ln : Lens) : IVec S8x1024 32 :=
  (Host.sort2 S8x1024 1 comparator_i1_i32_d1 (noti (tok ln)) (iotaInDim S8x1024 32 1)).2

/-- The places, a negative one counted from the end. -/
def wrapped (ln : Lens) : IVec S8x1024 32 :=
  select (cmpi .slt (order ln) (broadcastInDim S8x1024 ![] bcast_S_S8x1024 (constantI S_ 32 0#32)))
    (addi (order ln) (broadcastInDim S8x1024 ![] bcast_S_S8x1024 (constantI S_ 32 1024#32))) (order ln)

/-- The segment of each packed position, -1 past the tokens. -/
def caps (ln : Lens) : IVec S8x1024 32 :=
  select (live ln) (Host.gather gather_S1024_S8x1024x1_S8x1024_n_0_n_n_0_2_1
      (shapeCast _ (broadcastInDim S16x64 ![0, 1] bcast_S16x1_S16x64_0_1 (broadcastInDim S16x1 ![0] bcast_S16_S16x1_0 (iotaInDim S16 32 0))) shapeCasts_S16x64_S1024)
      (broadcastInDim S8x1024x1 ![0, 1] bcast_S8x1024_S8x1024x1_0_1 (wrapped ln)))
    (broadcastInDim S8x1024 ![] bcast_S_S8x1024 (id (constantI S_ 32 4294967295#32)))

/-- The place within its segment of each packed position, 0 past the tokens. -/
def places (ln : Lens) : IVec S8x1024 32 :=
  select (live ln) (Host.gather gather_S1024_S8x1024x1_S8x1024_n_0_n_n_0_2_1
      (shapeCast _ (broadcastInDim S16x64 ![0, 1] bcast_S1x64_S16x64_0_1 (broadcastInDim S1x64 ![1] bcast_S64_S1x64_1 (iotaInDim S64 32 0))) shapeCasts_S16x64_S1024)
      (broadcastInDim S8x1024x1 ![0, 1] bcast_S8x1024_S8x1024x1_0_1 (wrapped ln)))
    (broadcastInDim S8x1024 ![] bcast_S_S8x1024 (id (constantI S_ 32 0#32)))

variable {ln : Lens}

/-- Which places hold a token, entry by entry. -/
theorem tok_apply (h : InRange ln) (b : Fin 8) (p : Fin 1024) : tok ln (ix2 b p) = if Tok (lenOf ln b) p.val then 1#1 else 0#1 := by
  unfold tok
  rw [shapeCast_apply _ _ (ix2 b p) (ix3 b (⟨p.val / 64, by omega⟩ : Fin 16) (⟨p.val % 64, by omega⟩ : Fin 64))
    (by rw [rowMajor_val3 _ 1024 64 rfl rfl, rowMajor_val2 _ 1024 rfl]
        show b.val * 1024 + p.val / 64 * 64 + p.val % 64 = b.val * 1024 + p.val
        omega)]
  show IntOp.cmpi .slt _ _ = _
  rw [broadcastInDim_apply _ _ _ _ (ix3 0 0 (⟨p.val % 64, by omega⟩ : Fin 64)) (by intro a; fin_cases a <;> rfl),
    broadcastInDim_apply _ _ _ _ (ix1 (⟨p.val % 64, by omega⟩ : Fin 64)) (by intro a; fin_cases a; rfl),
    broadcastInDim_apply _ _ _ _ (ix3 b (⟨p.val / 64, by omega⟩ : Fin 16) 0) (by intro a; fin_cases a <;> rfl),
    broadcastInDim_apply _ _ _ _ (ix2 b (⟨p.val / 64, by omega⟩ : Fin 16)) (by intro a; fin_cases a <;> rfl)]
  have e : lenOf ln b (p.val / 64) = (ln (ix2 b (⟨p.val / 64, by omega⟩ : Fin 16))).toNat := by
    unfold lenOf
    rw [show Fin.ofNat 16 (p.val / 64) = (⟨p.val / 64, by omega⟩ : Fin 16) from Fin.ext (Nat.mod_eq_of_lt (by omega))]
  have hl := h (ix2 b (⟨p.val / 64, by omega⟩ : Fin 16))
  have e' : Tok (lenOf ln b) p.val ↔ p.val % 64 < (ln (ix2 b (⟨p.val / 64, by omega⟩ : Fin 16))).toNat := by unfold Tok; rw [e]
  rw [if_congr e' rfl rfl]
  generalize ln (ix2 b (⟨p.val / 64, by omega⟩ : Fin 16)) = w at hl ⊢
  show IntOp.cmpi .slt (BitVec.ofNat 32 (p.val % 64)) w = _
  obtain ⟨n, rfl, hn⟩ : ∃ n, w = BitVec.ofNat 32 n ∧ w.toNat = n := ⟨w.toNat, by simp, rfl⟩
  rw [hn] at hl ⊢
  split
  · exact (WordCmp.cmpi_slt_ofNat_eq_one_iff (by omega) (by omega)).2 ‹_›
  · exact (WordCmp.cmpi_slt_ofNat_eq_zero_iff (by omega) (by omega)).2 ‹_›

/-- The number of tokens of a row is the sum of its lengths. -/
theorem total_apply (h : InRange ln) (b : Fin 8) : total ln (ix1 b) = BitVec.ofNat 32 (start (lenOf ln b) 16) := by
  unfold total
  rw [Host.reduce_eq_fold_single IntOp.addi (h := (by decide : S8x1024.Reduces [1] S8))]
  refine (IndicatorCount.fold_addi_setWidth_eq_card (fun p : Fin 1024 => tok ln (ix2 b p)) Finset.univ).trans ?_
  congr 1
  rw [← count_start (h.le b) 16, Nat.count_eq_card_filter_range]
  refine Finset.card_bij (fun p _ => p.val) ?_ (fun _ _ _ _ e => Fin.ext e) ?_
  · intro p hp
    have := (Finset.mem_filter.1 hp).2
    rw [tok_apply h] at this
    refine Finset.mem_filter.2 ⟨Finset.mem_range.2 (by omega), ?_⟩
    by_contra hc; rw [if_neg hc] at this; simp at this
  · intro n hn
    obtain ⟨h1, h2⟩ := Finset.mem_filter.1 hn
    exact ⟨⟨n, by simpa using h1⟩, Finset.mem_filter.2 ⟨Finset.mem_univ _, by rw [tok_apply h, if_pos h2]⟩, rfl⟩

/-- A row has at most 1024 tokens. -/
theorem total_le (h : InRange ln) (b : Fin 8) : start (lenOf ln b) 16 ≤ 1024 := start_le (h.le b) 16

/-- The positions that hold a token, entry by entry. -/
theorem live_apply (h : InRange ln) (b : Fin 8) (l : Fin 1024) :
    live ln (ix2 b l) = if l.val < start (lenOf ln b) 16 then 1#1 else 0#1 := by
  show IntOp.cmpi .slt _ _ = _
  rw [broadcastInDim_apply _ _ _ _ (ix2 0 l) (by intro a; fin_cases a <;> rfl),
    broadcastInDim_apply _ _ _ _ (ix1 l) (by intro a; fin_cases a; rfl),
    broadcastInDim_apply _ _ _ _ (ix2 b 0) (by intro a; fin_cases a <;> rfl),
    broadcastInDim_apply _ _ _ _ (ix1 b) (by intro a; fin_cases a; rfl), total_apply h]
  have := total_le h b
  show IntOp.cmpi .slt (BitVec.ofNat 32 l.val) _ = _
  split
  · exact (WordCmp.cmpi_slt_ofNat_eq_one_iff (by omega) (by omega)).2 ‹_›
  · exact (WordCmp.cmpi_slt_ofNat_eq_zero_iff (by omega) (by omega)).2 ‹_›

/-- The second array a sort along the second axis gives, read at a row and a position. -/
theorem sort2_snd {B N : ℕ} {α β : Type} (cmp : α × β → α × β → BitVec 1) (x : (⟨2, ![B, N]⟩ : Shape).Idx → α)
    (y : (⟨2, ![B, N]⟩ : Shape).Idx → β) (b : Fin B) (l : Fin N) :
    (Host.sort2 ⟨2, ![B, N]⟩ 1 cmp x y).2 (ix2 b l)
      = y (ix2 b (sortedFrom (n := N) (fun k k' => cmp (x (ix2 b k), y (ix2 b k)) (x (ix2 b k'), y (ix2 b k')) == 1#1) l)) := by
  have along : ∀ k : Fin N, Shape.Idx.along (s := ⟨2, ![B, N]⟩) (ix2 b l) 1 k = ix2 b k := by
    intro k; funext a; fin_cases a <;> rfl
  show y (Shape.Idx.along (s := ⟨2, ![B, N]⟩) (ix2 b l) 1 (sortedFrom (n := N) (fun k k' => cmp (x (Shape.Idx.along (s := ⟨2, ![B, N]⟩) (ix2 b l) 1 k), y (Shape.Idx.along (s := ⟨2, ![B, N]⟩) (ix2 b l) 1 k))
    (x (Shape.Idx.along (s := ⟨2, ![B, N]⟩) (ix2 b l) 1 k'), y (Shape.Idx.along (s := ⟨2, ![B, N]⟩) (ix2 b l) 1 k')) == 1#1) l)) = _
  simp only [along]

/-- The sort puts at each packed position the place it reads. -/
theorem order_apply (h : InRange ln) (b : Fin 8) (l : Fin 1024) (hl : l.val < start (lenOf ln b) 16) :
    order ln (ix2 b l) = BitVec.ofNat 32 (src (lenOf ln b) l.val) := by
  have e := sortedFrom_src (N := 1024) rfl (h.le b) (fun p => ~~~(tok ln (ix2 b p)))
    (by intro p; show ~~~(tok ln (ix2 b p)) = _; rw [tok_apply h]; split <;> rfl) l hl
  rw [← e]
  refine (sort2_snd (B := 8) (N := 1024) comparator_i1_i32_d1 (noti (tok ln)) (iotaInDim S8x1024 32 1) b l).trans ?_
  refine congrArg (BitVec.ofNat 32) (congrArg (fun f => (sortedFrom (n := 1024) f l).val) (funext fun k => funext fun k' => ?_))
  show (BitVec.ofBool ((~~~(tok ln (ix2 b k))).ult (~~~(tok ln (ix2 b k')))) == 1#1) = _
  rw [BitVec.ult]
  cases decide ((~~~(tok ln (ix2 b k))).toNat < (~~~(tok ln (ix2 b k'))).toNat) <;> rfl

attribute [local irreducible] order start src tok

/-- A small word is not negative. -/
theorem not_neg {n : ℕ} (hn : n < 1024) : IntOp.cmpi .slt (BitVec.ofNat 32 n) 0#32 = 0#1 :=
  (WordCmp.cmpi_slt_ofNat_eq_zero_iff (b := 0) (by omega) (by omega)).2 (by omega)

/-- A token's place is not wrapped. -/
theorem wrapped_apply (h : InRange ln) (b : Fin 8) (l : Fin 1024) (hl : l.val < start (lenOf ln b) 16) :
    wrapped ln (ix2 b l) = BitVec.ofNat 32 (src (lenOf ln b) l.val) := by
  show Scalar.select (IntOp.cmpi .slt (order ln (ix2 b l)) 0#32) _ (order ln (ix2 b l)) = _
  rw [order_apply h b l hl, not_neg (src_lt (h.le b) hl)]
  rfl

/-- Reading a table of 1024 words at the source of a packed position. -/
theorem table_apply (h : InRange ln) (x : IVec S1024 32) (b : Fin 8) (l : Fin 1024) (hl : l.val < start (lenOf ln b) 16) :
    Host.gather gather_S1024_S8x1024x1_S8x1024_n_0_n_n_0_2_1 x
      (broadcastInDim S8x1024x1 ![0, 1] bcast_S8x1024_S8x1024x1_0_1 (wrapped ln)) (ix2 b l)
      = x (ix1 ⟨src (lenOf ln b) l.val, src_lt (h.le b) hl⟩) := by
  obtain ⟨wf, e⟩ : ∃ wf, gather_S1024_S8x1024x1_S8x1024_n_0_n_n_0_2_1 = takeDims 1024 8 1024 wf := ⟨_, rfl⟩
  rw [e]
  have g := gather_take_apply (by decide) wf x (broadcastInDim S8x1024x1 ![0, 1] bcast_S8x1024_S8x1024x1_0_1 (wrapped ln)) (ix2 b l)
  have hb : broadcastInDim S8x1024x1 ![0, 1] bcast_S8x1024_S8x1024x1_0_1 (wrapped ln) (takeIdx (ix2 b l)) = BitVec.ofNat 32 (src (lenOf ln b) l.val) :=
    (broadcastInDim_apply _ _ _ _ (ix2 b l) (by intro a; fin_cases a <;> rfl)).trans (wrapped_apply h b l hl)
  have hs := src_lt (h.le b) hl
  have hm : min (BitVec.ofNat 32 (src (lenOf ln b) l.val)).toInt.toNat (1024 - 1) = src (lenOf ln b) l.val := by
    rw [BitVec.toInt_eq_toNat_of_lt (by simp; omega)]
    simp; omega
  refine g.trans (congrArg x (congrArg ix1 (Fin.ext ?_)))
  exact (congrArg (fun w : BitVec 32 => min w.toInt.toNat (1024 - 1)) hb).trans hm

/-- The segment numbers, entry by entry. -/
theorem caps_apply (h : InRange ln) (b : Fin 8) (l : Fin 1024) :
    caps ln (ix2 b l) = if l.val < start (lenOf ln b) 16 then BitVec.ofNat 32 (cap (lenOf ln b) l.val) else 4294967295#32 := by
  show Scalar.select (live ln (ix2 b l)) _ _ = _
  rw [live_apply h]
  split
  · rename_i hl
    rw [select_one, table_apply h _ b l hl]
    have hs := src_lt (h.le b) hl
    rw [shapeCast_apply _ _ _ (ix2 (⟨src (lenOf ln b) l.val / 64, by omega⟩ : Fin 16) (⟨src (lenOf ln b) l.val % 64, by omega⟩ : Fin 64))
      (by rw [rowMajor_val2 _ 64 rfl, rowMajor_val1]
          show src (lenOf ln b) l.val / 64 * 64 + src (lenOf ln b) l.val % 64 = src (lenOf ln b) l.val
          omega),
      broadcastInDim_apply _ _ _ _ (ix2 (⟨src (lenOf ln b) l.val / 64, by omega⟩ : Fin 16) 0) (by intro a; fin_cases a <;> rfl),
      broadcastInDim_apply _ _ _ _ (ix1 (⟨src (lenOf ln b) l.val / 64, by omega⟩ : Fin 16)) (by intro a; fin_cases a; rfl)]
    show BitVec.ofNat 32 (src (lenOf ln b) l.val / 64) = _
    rw [src_div (h.le b) hl]
  · rfl

/-- The places in the segments, entry by entry. -/
theorem places_apply (h : InRange ln) (b : Fin 8) (l : Fin 1024) :
    places ln (ix2 b l) = if l.val < start (lenOf ln b) 16 then BitVec.ofNat 32 (pos (lenOf ln b) l.val) else 0#32 := by
  show Scalar.select (live ln (ix2 b l)) _ _ = _
  rw [live_apply h]
  split
  · rename_i hl
    rw [select_one, table_apply h _ b l hl]
    have hs := src_lt (h.le b) hl
    rw [shapeCast_apply _ _ _ (ix2 (⟨src (lenOf ln b) l.val / 64, by omega⟩ : Fin 16) (⟨src (lenOf ln b) l.val % 64, by omega⟩ : Fin 64))
      (by rw [rowMajor_val2 _ 64 rfl, rowMajor_val1]
          show src (lenOf ln b) l.val / 64 * 64 + src (lenOf ln b) l.val % 64 = src (lenOf ln b) l.val
          omega),
      broadcastInDim_apply _ _ _ _ (ix2 0 (⟨src (lenOf ln b) l.val % 64, by omega⟩ : Fin 64)) (by intro a; fin_cases a <;> rfl),
      broadcastInDim_apply _ _ _ _ (ix1 (⟨src (lenOf ln b) l.val % 64, by omega⟩ : Fin 64)) (by intro a; fin_cases a; rfl)]
    show BitVec.ofNat 32 (src (lenOf ln b) l.val % 64) = _
    rw [src_mod (h.le b) hl]
  · rfl

end Cert.Ref
-- ==== Proof.Precond.lean ====
/-
  What the stated precondition says: no length exceeds sixty-four, and either the bias is zero or every segment is full.
-/
module

public import proofs.«01_k».proof.Pre_lens_in_range
public import proofs.«01_k».proof.Proof.Ref.Tokens
public import Idealize.ShloMosaic.PureOps.Ideal.Laws
public import Idealize.ShloMosaic.Lib.ReduceAll

@[expose] public section

set_option maxRecDepth 16384

noncomputable section

namespace Cert.Proof

open Idealize.ShloMosaic hiding ix1 ix2 ix3
open Idealize.ShloMosaic.ValueIdx

/-- The shapes the precondition's operations relate. -/
theorem pre_facts : Cert.Pre_lens_in_range.Facts where
  bcast_S_S8x16 := by decide
  reducesTo_S8x16_S_d0_1 := by decide
  h_S_ := by decide
  bcast_S_S256 := by decide
  reducesTo_S256_S_d0 := by decide

local instance preFacts : Cert.Pre_lens_in_range.Facts := pre_facts

/-- A scalar has one place. -/
local instance scalarOne : Subsingleton (⟨0, ![]⟩ : Shape).Idx := ⟨fun _ _ => funext fun a => a.elim0⟩

/-- A comparison for equality of two exact numbers that holds says they are equal. -/
theorem eq_of_cmp {x y : EReal} (h : Ideal.cmp .oeq x y = 1#1) : x = y := by
  by_contra hne
  simp [Ideal.cmp, hne] at h

/-- A word between zero and sixty-four as a signed number is at most sixty-four. -/
theorem small_word {w : BitVec 32} (h0 : (0#32).toInt ≤ w.toInt) (h1 : w.toInt ≤ (64#32).toInt) : w.toNat ≤ 64 := by
  have e0 : (0#32 : BitVec 32).toInt = 0 := rfl
  have e1 : (64#32 : BitVec 32).toInt = 64 := rfl
  rw [e0] at h0
  rw [e1] at h1
  rw [BitVec.toInt_eq_toNat_cond] at h0 h1
  split at h0 <;> omega

/-- What the precondition says. -/
theorem pre_says {x : FVec Ideal Cert.Pre_lens_in_range.S8x16x64x512 .f32} {ln : Cert.Ref.Lens}
    {w : FVec Ideal Cert.Pre_lens_in_range.S256x512 .f32} {b : FVec Ideal Cert.Pre_lens_in_range.S256 .f32}
    (h : Cert.Pre_lens_in_range.fn (F := Ideal) x ln w b = fun _ => 1#1) :
    Cert.Ref.InRange ln ∧ ((∀ i, (b i : EReal) = 0) ∨ ∀ i, ln i = 64#32) := by
  have h := congrFun h (fun a => a.elim0)
  dsimp only [Cert.Pre_lens_in_range.fn] at h
  obtain ⟨ha, hb⟩ := IntOp.andi_eq_one.1 h
  refine ⟨fun i => ?_, (IntOp.ori_eq_one.1 hb).imp (fun hz i => ?_) fun hf i => ?_⟩
  · obtain ⟨h0, h1⟩ := IntOp.andi_eq_one.1 (Host.reduce_andi_all _ _ _ _ _ ha i)
    exact small_word (IntOp.cmpi_sge.1 h0) (IntOp.cmpi_sle.1 h1)
  · exact (eq_of_cmp (Host.reduce_andi_all _ _ _ _ _ hz i)).trans Ideal.ofBits_zero_f32
  · exact IntOp.cmpi_eq.1 (Host.reduce_andi_all _ _ _ _ _ hf i)

end Cert.Proof

end
-- ==== Proof.Arrays.lean ====
/-
  The arrays the run leaves, entry by entry: grid point `b` of the main kernel writes row `b` of each of its four outputs,
  and nothing else writes those rows.
-/
module

public import proofs.«01_k».proof.Proof.Ideal.Launch
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe
open Idealize.ShloMosaic.ValueIdx
open Idealize.ShloMosaic.Pipeline

variable {F : FTy → Type} [FloatOps F] [Named F]
variable (V : Dev nD → Valuation τ sig (Elt F))

/-- Where each window's block lies at each grid point: row `t` of the arrays that are cut by rows, the whole of the others. -/
theorem index_val : ∀ t : Fin grid0.N,
    (win0_0.index t = fun _ => 0) ∧ (∀ a, win0_1.index t a = if a = 0 then t.val else 0) ∧ (win0_2.index t = fun _ => 0)
      ∧ (win0_3.index t = fun _ => 0) ∧ (∀ a, win0_4.index t a = if a = 0 then t.val else 0)
      ∧ (∀ a, win0_5.index t a = if a = 0 then t.val else 0) ∧ (∀ a, win0_6.index t a = if a = 0 then t.val else 0)
      ∧ (∀ a, win0_7.index t a = if a = 0 then t.val else 0) := by decide +kernel

/-- The grid's one coordinate is the point. -/
theorem coords_val : ∀ t : Fin grid0.N, (grid0.coords t 0).val = t.val := by decide +kernel

/-- Blocks cut by rows at different grid points do not meet. -/
theorem disj_rows (w : Fin cfg0.W) (hk : (cfg0.win w).kind = .blocked) (a₀ : Fin (cfg0.win w).shape.rank) (hw : ∀ t, (cfg0.win w).index t a₀ = t.val) :
    ∀ t t' : Fin cfg0.N, (cfg0.win w).flush t = true → (cfg0.win w).flush t' = true → t ≠ t' →
      Disjoint ((cfg0.win w).blk t).view.set ((cfg0.win w).blk t').view.set :=
  fun t t' _ _ hne => (cfg0.win w).disjoint_blk (hk := hk) fun h => hne (Fin.ext ((hw t).symm.trans ((congrFun h a₀).trans (hw t'))))

/-! ## The outputs -/

/-- Block `t` of the projection is row `t`. -/
theorem emb4 (t : Fin 8) (l : Fin 1024) (d : Fin 256) :
    (((cfg0.win 4).blk t).view.emb (ix3 0 l d : S1x1024x256.Idx) : S8x1024x256.Idx) = ix3 t l d := by
  funext a
  refine Fin.ext ((win0_4.rect_emb_val t (ix3 0 l d : S1x1024x256.Idx) a).trans ?_)
  rw [(index_val t).2.2.2.2.1 a]
  match a with
  | ⟨0, _⟩ => show t.val * 1 + 0 = t.val; omega
  | ⟨1, _⟩ => show 0 * 1024 + l.val = l.val; omega
  | ⟨2, _⟩ => show 0 * 256 + d.val = d.val; omega

/-- Row `t` of the projection. -/
theorem row4 (c : Dev nD) (t : Fin 8) (l : Fin 1024) (d : Fin 256) :
    ((dats V 0 c).arrAt 4 cfg0.N : S8x1024x256.Idx → F .f32) (ix3 t l d)
      = projOut (sumsAt V c t) (iblk V c 1 t) (iblk V c 2 t) (iblk V c 3 t) (ix3 0 l d) := by
  have h := (dats V 0 c).arrAt_emb_eq_flushed 4 (disj_rows 4 rfl 0 fun t => (index_val t).2.2.2.2.1 0) t (Gen.flush0_4 t) (ix3 0 l d : S1x1024x256.Idx)
  refine (congrArg ((dats V 0 c).arrAt 4 cfg0.N : S8x1024x256.Idx → F .f32) (emb4 t l d)).symm.trans (h.trans ?_)
  exact congrFun (after0_4 V c t) (ix3 0 l d)

/-- Block `t` of the positional array is row `t`. -/
theorem emb5 (t : Fin 8) (l : Fin 1024) (d : Fin 256) :
    (((cfg0.win 5).blk t).view.emb (ix3 0 l d : S1x1024x256.Idx) : S8x1024x256.Idx) = ix3 t l d := by
  funext a
  refine Fin.ext ((win0_5.rect_emb_val t (ix3 0 l d : S1x1024x256.Idx) a).trans ?_)
  rw [(index_val t).2.2.2.2.2.1 a]
  match a with
  | ⟨0, _⟩ => show t.val * 1 + 0 = t.val; omega
  | ⟨1, _⟩ => show 0 * 1024 + l.val = l.val; omega
  | ⟨2, _⟩ => show 0 * 256 + d.val = d.val; omega

/-- Row `t` of the positional array. -/
theorem row5 (c : Dev nD) (t : Fin 8) (l : Fin 1024) (d : Fin 256) :
    ((dats V 0 c).arrAt 5 cfg0.N : S8x1024x256.Idx → F .f32) (ix3 t l d) = posOut (sumsAt V c t) (ix3 0 l d) := by
  have h := (dats V 0 c).arrAt_emb_eq_flushed 5 (disj_rows 5 rfl 0 fun t => (index_val t).2.2.2.2.2.1 0) t (Gen.flush0_5 t) (ix3 0 l d : S1x1024x256.Idx)
  refine (congrArg ((dats V 0 c).arrAt 5 cfg0.N : S8x1024x256.Idx → F .f32) (emb5 t l d)).symm.trans (h.trans ?_)
  exact congrFun (after0_5 V c t) (ix3 0 l d)

/-- Block `t` of the padding mask is row `t`. -/
theorem emb6 (t : Fin 8) (l : Fin 1024) :
    (((cfg0.win 6).blk t).view.emb (ix3 0 0 l : S1x1x1024.Idx) : S8x1x1024.Idx) = ix3 t 0 l := by
  funext a
  refine Fin.ext ((win0_6.rect_emb_val t (ix3 0 0 l : S1x1x1024.Idx) a).trans ?_)
  rw [(index_val t).2.2.2.2.2.2.1 a]
  match a with
  | ⟨0, _⟩ => show t.val * 1 + 0 = t.val; omega
  | ⟨1, _⟩ => show 0 * 1 + 0 = 0; omega
  | ⟨2, _⟩ => show 0 * 1024 + l.val = l.val; omega

/-- Row `t` of the padding mask. -/
theorem row6 (c : Dev nD) (t : Fin 8) (l : Fin 1024) :
    ((dats V 0 c).arrAt 6 cfg0.N : S8x1x1024.Idx → BitVec 32) (ix3 t 0 l) = maskOut (F := F) (sumsAt V c t) (ix3 0 0 l) := by
  have h := (dats V 0 c).arrAt_emb_eq_flushed 6 (disj_rows 6 rfl 0 fun t => (index_val t).2.2.2.2.2.2.1 0) t (Gen.flush0_6 t) (ix3 0 0 l : S1x1x1024.Idx)
  refine (congrArg ((dats V 0 c).arrAt 6 cfg0.N : S8x1x1024.Idx → BitVec 32) (emb6 t l)).symm.trans (h.trans ?_)
  exact congrFun (after0_6 V c t) (ix3 0 0 l)

/-- Block `t` of the attention mask is row `t`. -/
theorem emb7 (t : Fin 8) (l k : Fin 1024) :
    (((cfg0.win 7).blk t).view.emb (ix3 0 l k : S1x1024x1024.Idx) : S8x1024x1024.Idx) = ix3 t l k := by
  funext a
  refine Fin.ext ((win0_7.rect_emb_val t (ix3 0 l k : S1x1024x1024.Idx) a).trans ?_)
  rw [(index_val t).2.2.2.2.2.2.2 a]
  match a with
  | ⟨0, _⟩ => show t.val * 1 + 0 = t.val; omega
  | ⟨1, _⟩ => show 0 * 1024 + l.val = l.val; omega
  | ⟨2, _⟩ => show 0 * 1024 + k.val = k.val; omega

/-- Row `t` of the attention mask. -/
theorem row7 (c : Dev nD) (t : Fin 8) (l k : Fin 1024) :
    ((dats V 0 c).arrAt 7 cfg0.N : S8x1024x1024.Idx → BitVec 32) (ix3 t l k) = attOut (F := F) (sumsAt V c t) (ix3 0 l k) := by
  have h := (dats V 0 c).arrAt_emb_eq_flushed 7 (disj_rows 7 rfl 0 fun t => (index_val t).2.2.2.2.2.2.2 0) t (Gen.flush0_7 t) (ix3 0 l k : S1x1024x1024.Idx)
  refine (congrArg ((dats V 0 c).arrAt 7 cfg0.N : S8x1024x1024.Idx → BitVec 32) (emb7 t l k)).symm.trans (h.trans ?_)
  exact congrFun (after0_7 V c t) (ix3 0 l k)

/-! ## The inputs -/

/-- The lengths' block is the whole array. -/
theorem blk0 (c : Dev nD) (t : Fin 8) (i : S8x16.Idx) :
    (iblk V c 0 t : S8x16.Idx → BitVec 32) i = (V c (Proc.devRef .tc main_arg1) : S8x16.Idx → BitVec 32) i := by
  refine congrArg (V c (Proc.devRef .tc main_arg1) : S8x16.Idx → BitVec 32) ?_
  funext a
  exact Fin.ext (win0_0.rect_emb_val_of_index_zero t a (congrFun (index_val t).1 a) i)

/-- The features' block at point `t` is row `t`. -/
theorem blk1 (c : Dev nD) (t : Fin 8) (l : Fin 1024) (k : Fin 512) :
    (iblk V c 1 t : S1x1024x512.Idx → F .f32) (ix3 0 l k) = (V c (Proc.devRef .tc main_v0) : S8x1024x512.Idx → F .f32) (ix3 t l k) := by
  refine congrArg (V c (Proc.devRef .tc main_v0) : S8x1024x512.Idx → F .f32) ?_
  funext a
  refine Fin.ext ((win0_1.rect_emb_val t (ix3 0 l k : S1x1024x512.Idx) a).trans ?_)
  rw [(index_val t).2.1 a]
  match a with
  | ⟨0, _⟩ => show t.val * 1 + 0 = t.val; omega
  | ⟨1, _⟩ => show 0 * 1024 + l.val = l.val; omega
  | ⟨2, _⟩ => show 0 * 512 + k.val = k.val; omega

/-- The weights' block is the whole array. -/
theorem blk2 (c : Dev nD) (t : Fin 8) (i : S256x512.Idx) :
    (iblk V c 2 t : S256x512.Idx → F .f32) i = (V c (Proc.devRef .tc main_arg2) : S256x512.Idx → F .f32) i := by
  refine congrArg (V c (Proc.devRef .tc main_arg2) : S256x512.Idx → F .f32) ?_
  funext a
  exact Fin.ext (win0_2.rect_emb_val_of_index_zero t a (congrFun (index_val t).2.2.1 a) i)

/-- The bias's block is the whole array. -/
theorem blk3 (c : Dev nD) (t : Fin 8) (i : S1x256.Idx) :
    (iblk V c 3 t : S1x256.Idx → F .f32) i = (V c (Proc.devRef .tc main_v1) : S1x256.Idx → F .f32) i := by
  refine congrArg (V c (Proc.devRef .tc main_v1) : S1x256.Idx → F .f32) ?_
  funext a
  exact Fin.ext (win0_3.rect_emb_val_of_index_zero t a (congrFun (index_val t).2.2.2.1 a) i)

/-- The running sums at point `t` are those of row `t` of the lengths. -/
theorem sumsAt_eq (c : Dev nD) (t : Fin 8) :
    sumsAt V c t = Cert.Words.starts fun n => (V c (Proc.devRef .tc main_arg1) : S8x16.Idx → BitVec 32) (ix2 t n) := by
  refine congrArg Cert.Words.starts (funext fun n => ?_)
  refine (blk0 V c t _).trans (congrArg (fun r : Fin 8 => (V c (Proc.devRef .tc main_arg1) : S8x16.Idx → BitVec 32) (ix2 r n)) ?_)
  exact Fin.ext (coords_val t)

/-! ## What the run leaves in each result -/

variable (m : (ℓ : Loc nD τ sig) → Buf (Elt F) ℓ)

/-- A window's array after the region. -/
theorem W2_arr (d : Dev nD) (w : Fin cfg0.W) : W2 m d (Proc.devRef .tc (arrRef spec0 w)) = (dats (W1 m) 0 d).arrAt w cfg0.N :=
  afterRegion_arr (dats (W1 m) 0 d) (W1 m d) launch0.win.arr_inj w

/-- The lengths as the region finds them. -/
theorem W1_len (d : Dev nD) : W1 m d (Proc.devRef .tc main_arg1) = m (d, Proc.devRef .tc main_arg1) := W1_of m d main_arg1 (by decide) (by decide)
/-- The weights as the region finds them. -/
theorem W1_weights (d : Dev nD) : W1 m d (Proc.devRef .tc main_arg2) = m (d, Proc.devRef .tc main_arg2) := W1_of m d main_arg2 (by decide) (by decide)
/-- The features as the region finds them: the argument's, one row per batch entry. -/
theorem W1_feat (d : Dev nD) : (W1 m d (Proc.devRef .tc main_v0) : S8x1024x512.Idx → F .f32)
    = shapeCast S8x1024x512 (m (d, Proc.devRef .tc main_arg0) : S8x16x64x512.Idx → F .f32) shapeCasts_S8x16x64x512_S8x1024x512 := by
  unfold W1; after_results_simp; rfl
/-- The bias as the region finds it: one row. -/
theorem W1_bias (d : Dev nD) : (W1 m d (Proc.devRef .tc main_v1) : S1x256.Idx → F .f32)
    = shapeCast S1x256 (m (d, Proc.devRef .tc main_arg3) : S256.Idx → F .f32) shapeCasts_S256_S1x256 := by
  unfold W1; after_results_simp; rfl

/-- The projection and the positional array are as the region leaves them. -/
theorem W5_proj (d : Dev nD) : W5 m d (Proc.devRef .tc main_v2_0) = (dats (W1 m) 0 d).arrAt 4 cfg0.N :=
  (W5_of m d main_v2_0 (by decide)).trans ((W4_of m d main_v2_0 (by decide)).trans ((W3_of m d main_v2_0 (by decide)).trans (W2_arr m d 4)))
/-- The positional array is as the region leaves it. -/
theorem W5_pos (d : Dev nD) : W5 m d (Proc.devRef .tc main_v2_1) = (dats (W1 m) 0 d).arrAt 5 cfg0.N :=
  (W5_of m d main_v2_1 (by decide)).trans ((W4_of m d main_v2_1 (by decide)).trans ((W3_of m d main_v2_1 (by decide)).trans (W2_arr m d 5)))

/-- The attention mask is the region's, made boolean. -/
theorem W5_att (d : Dev nD) : (W5 m d (Proc.devRef .tc main_v8) : S8x1024x1024.Idx → BitVec 1)
    = cmpi .ne ((dats (W1 m) 0 d).arrAt 7 cfg0.N : S8x1024x1024.Idx → BitVec 32) (broadcastInDim S8x1024x1024 ![] bcast_S_S8x1024x1024 (constantI S_ 32 0#32)) := by
  refine (W5_of m d main_v8 (by decide)).trans ((W4_of m d main_v8 (by decide)).trans ?_)
  refine Eq.trans ?_ (congrArg (fun z : S8x1024x1024.Idx → BitVec 32 => cmpi .ne z (broadcastInDim S8x1024x1024 ![] bcast_S_S8x1024x1024 (constantI S_ 32 0#32))) (W2_arr m d 7))
  unfold W3; after_results_simp; rfl

/-- The padding mask is the region's, made boolean and reshaped. -/
theorem W5_mask (d : Dev nD) : (W5 m d (Proc.devRef .tc main_v10) : S8x1024.Idx → BitVec 1)
    = shapeCast S8x1024 (cmpi .ne ((dats (W1 m) 0 d).arrAt 6 cfg0.N : S8x1x1024.Idx → BitVec 32) (broadcastInDim S8x1x1024 ![] bcast_S_S8x1x1024 (constantI S_ 32 0#32)))
        shapeCasts_S8x1x1024_S8x1024 := by
  have h5 : (W4 m d (Proc.devRef .tc main_v5) : S8x1x1024.Idx → BitVec 1)
      = cmpi .ne ((dats (W1 m) 0 d).arrAt 6 cfg0.N : S8x1x1024.Idx → BitVec 32) (broadcastInDim S8x1x1024 ![] bcast_S_S8x1x1024 (constantI S_ 32 0#32)) := by
    refine (W4_of m d main_v5 (by decide)).trans ?_
    refine Eq.trans ?_ (congrArg (fun z : S8x1x1024.Idx → BitVec 32 => cmpi .ne z (broadcastInDim S8x1x1024 ![] bcast_S_S8x1x1024 (constantI S_ 32 0#32))) (W2_arr m d 6))
    unfold W3; after_results_simp; rfl
  refine Eq.trans ?_ (congrArg (fun z : S8x1x1024.Idx → BitVec 1 => shapeCast S8x1024 z shapeCasts_S8x1x1024_S8x1024) h5)
  unfold W5; after_results_simp; rfl

/-- The segment numbers are the SparseCore call's. -/
theorem W5_cap (d : Dev nD) : W5 m d (Proc.devRef .tc main_v9) = capOut m d :=
  (W5_of m d main_v9 (by decide)).trans (W4_cap m d)

end Cert.KernelIdeal.Run

end
-- ==== Proof.Rows.Words.lean ====
/-
  The integer words of one batch row, with every length at most 64: the running sums are the starts of the segments, the
  comparisons with them count to the segment of a position, and the last one reached is where that segment starts.
-/
module

public import proofs.«01_k».proof.Proof.Pack
public import proofs.«01_k».proof.Proof.Words
public import Idealize.ShloMosaic.Lib.WordCmp
public import Idealize.ShloMosaic.Lib.Pipeline.Value

@[expose] public section

namespace Cert.Words

open Idealize.ShloMosaic Cert.Pack

/-- One more than how many of `s 1, …, s n` the position `l` has reached: the start at 0 counts too. -/
def tally (s : ℕ → BitVec 32) (l : BitVec 32) : ℕ → BitVec 32
  | 0 => IntOp.addi 0#32 ((IntOp.cmpi .sge l 0#32).setWidth 32)
  | n + 1 => IntOp.addi (tally s l n) ((IntOp.cmpi .sge l (s (n + 1))).setWidth 32)

/-- The last of `s 1, …, s n` that the position `l` has reached, 0 if none. -/
def latest (s : ℕ → BitVec 32) (l : BitVec 32) : ℕ → BitVec 32
  | 0 => 0#32
  | n + 1 => Scalar.select (IntOp.cmpi .sge l (s (n + 1))) (s (n + 1)) (latest s l n)

/-- The lengths as numbers. -/
def nums (f : Fin 16 → BitVec 32) (n : ℕ) : ℕ := (f (Fin.ofNat 16 n)).toNat

variable {f : Fin 16 → BitVec 32}

/-- Adding a word to that of a number. -/
theorem addi_word (a : ℕ) (w : BitVec 32) : IntOp.addi (BitVec.ofNat 32 a) w = BitVec.ofNat 32 (a + w.toNat) := by
  apply BitVec.eq_of_toNat_eq
  show (BitVec.ofNat 32 a + w).toNat = _
  simp [BitVec.toNat_add]

/-- The difference of the words of two numbers. -/
theorem subi_word {a b : ℕ} (h : b ≤ a) : IntOp.subi (BitVec.ofNat 32 a) (BitVec.ofNat 32 b) = BitVec.ofNat 32 (a - b) := by
  obtain ⟨c, rfl⟩ := Nat.exists_eq_add_of_le h
  show BitVec.ofNat 32 (b + c) - BitVec.ofNat 32 b = _
  rw [Nat.add_sub_cancel_left, BitVec.ofNat_add, BitVec.add_comm, BitVec.add_sub_cancel]

/-- The running sums are the words of the starts. -/
theorem starts_eq (n : ℕ) : starts f n = BitVec.ofNat 32 (start (nums f) n) := by
  induction n with
  | zero => rfl
  | succ n ih =>
    rw [start_succ, starts, ih, addi_word]; rfl

/-- Small words compare as their numbers, for at least. -/
theorem sge_word {a b : ℕ} (ha : a < 2 ^ 31) (hb : b < 2 ^ 31) :
    IntOp.cmpi .sge (BitVec.ofNat 32 a) (BitVec.ofNat 32 b) = if b ≤ a then 1#1 else 0#1 := by
  split
  · exact (WordCmp.cmpi_sge_ofNat_eq_one_iff ha hb).2 ‹_›
  · exact (WordCmp.cmpi_sge_ofNat_eq_zero_iff ha hb).2 ‹_›

/-- Small words compare as their numbers, for less. -/
theorem slt_word {a b : ℕ} (ha : a < 2 ^ 31) (hb : b < 2 ^ 31) :
    IntOp.cmpi .slt (BitVec.ofNat 32 a) (BitVec.ofNat 32 b) = if a < b then 1#1 else 0#1 := by
  split
  · exact (WordCmp.cmpi_slt_ofNat_eq_one_iff ha hb).2 ‹_›
  · exact (WordCmp.cmpi_slt_ofNat_eq_zero_iff ha hb).2 ‹_›

variable (hf : ∀ n, (f n).toNat ≤ 64)
include hf

/-- Each length, as a number, is at most 64. -/
theorem nums_le (n : ℕ) : nums f n ≤ 64 := hf _

/-- Whether a position has reached a start. -/
theorem sge_starts {l n : ℕ} (hl : l < 1024) (hn : n ≤ 16) :
    IntOp.cmpi .sge (BitVec.ofNat 32 l) (starts f n) = if start (nums f) n ≤ l then 1#1 else 0#1 := by
  have := start_le (nums_le hf) n
  rw [starts_eq, sge_word (by omega) (by omega)]

/-- Whether a position holds a token. -/
theorem live_word {l : ℕ} (hl : l < 1024) :
    IntOp.cmpi .slt (BitVec.ofNat 32 l) (starts f 16) = if l < start (nums f) 16 then 1#1 else 0#1 := by
  have := start_le (nums_le hf) 16
  rw [starts_eq, slt_word (by omega) (by omega)]

/-- The count of starts reached, as a number. -/
theorem reached_eq {l : ℕ} (hl : l < 1024) (n : ℕ) (hn : n ≤ 16) :
    reached (starts f) (BitVec.ofNat 32 l) n = BitVec.ofNat 32 (upto (nums f) l n) := by
  induction n with
  | zero => rfl
  | succ n ih =>
    rw [reached, sge_starts hf hl hn, ih (by omega), upto]
    split
    · rw [addi_word]; rfl
    · rfl

/-- The same count with the first start, as a number. -/
theorem tally_eq {l : ℕ} (hl : l < 1024) (n : ℕ) (hn : n ≤ 16) :
    tally (starts f) (BitVec.ofNat 32 l) n = BitVec.ofNat 32 (upto (nums f) l n + 1) := by
  induction n with
  | zero =>
    rw [tally, sge_word (b := 0) (by omega) (by omega), if_pos (Nat.zero_le _)]; rfl
  | succ n ih =>
    rw [tally, sge_starts hf hl hn, ih (by omega), upto, addi_word]
    split
    · rfl
    · rfl

/-- The last start reached, as a number. -/
theorem latest_eq {l : ℕ} (hl : l < 1024) (n : ℕ) (hn : n ≤ 16) :
    latest (starts f) (BitVec.ofNat 32 l) n = BitVec.ofNat 32 (start (nums f) (upto (nums f) l n)) := by
  induction n with
  | zero => rfl
  | succ n ih =>
    rw [latest, sge_starts hf hl hn, ih (by omega), upto]
    split
    · rename_i h
      rw [show upto (nums f) l n = n from ?_]
      · exact starts_eq (n + 1)
      · obtain ⟨h1, h2, h3⟩ := upto_spec (len := nums f) l n
        by_contra hc
        have := h3 (by omega)
        have := start_mono (len := nums f) (show upto (nums f) l n + 1 ≤ n + 1 by omega)
        omega
    · rfl

/-- The segment number of a position, -1 past the total. -/
theorem capWord_eq {l : ℕ} (hl : l < 1024) :
    capWord (starts f) (BitVec.ofNat 32 l) = if l < start (nums f) 16 then BitVec.ofNat 32 (cap (nums f) l) else 4294967295#32 := by
  rw [capWord, live_word hf hl, reached_eq hf hl 15 (by omega)]
  split <;> rfl

end Cert.Words
-- ==== Proof.Rows.Ints.lean ====
/-
  What the main kernel body's integer arrays hold, position by position: which positions are live, the segment of each
  position, the start of that segment, and from them the mask and the attention mask it writes.
-/
module

public import proofs.«01_k».proof.Proof.Rows.Words
public import proofs.«01_k».proof.Proof.Ideal.TcBody
public import Idealize.ShloMosaic.Lib.Pointwise.Reshape

@[expose] public section

set_option maxRecDepth 16384

noncomputable section

namespace Cert.Rows

open Cert.KernelIdeal Cert.KernelIdeal.Gen Cert.KernelIdeal.Run Cert.Words Cert.Pack
open Idealize.ShloMosaic hiding ix1 ix2 ix3
open Idealize.ShloMosaic.ValueIdx

/-- The count of a row position after the last comparison. -/
theorem count_tally (s : ℕ → BitVec 32) (i : S1024x1.Idx) :
    k0_pay39 (s 14) (s 15) iotaC (count13 s) i = IntOp.subi (tally s (iotaC i) 15) 1#32 := by
  simp only [tally, Nat.reduceAdd]
  rfl

/-- The count of a column position after the last comparison. -/
theorem countR_tally (s : ℕ → BitVec 32) (i : S1x1024.Idx) :
    k0_pay40 (s 14) (s 15) iotaR (countR12 s) (k0_pay33 (s 13) iotaR) i = IntOp.subi (tally s (iotaR i) 15) 1#32 := by
  simp only [tally, Nat.reduceAdd]
  rfl

/-- The last running sum a row position has reached. -/
theorem start_latest (s : ℕ → BitVec 32) (i : S1024x1.Idx) :
    k0_pay36 (s 13) (s 14) (s 15) iotaC (spos12 s) (reach13 s) i = latest s (iotaC i) 15 := by
  simp only [latest, Nat.reduceAdd]
  rfl

/-- The column of positions, entry by entry. -/
theorem iotaC_apply (l : Fin 1024) : iotaC (ix2 l 0) = BitVec.ofNat 32 l.val := iota_single_apply _ _ _ _ _ _
/-- The row of positions, entry by entry. -/
theorem iotaR_apply (l : Fin 1024) : iotaR (ix2 0 l) = BitVec.ofNat 32 l.val := iota_single_apply _ _ _ _ _ _

attribute [local irreducible] starts tally latest start

variable {F : FTy → Type} [FloatOps F]

variable {f : Fin 16 → BitVec 32} (hf : ∀ n, (f n).toNat ≤ 64)
include hf

/-- Which positions hold a token, down the column. -/
theorem liveC (l : Fin 1024) : k0_pay37 (starts f 16) iotaC (ix2 l 0) = if l.val < start (nums f) 16 then 1#1 else 0#1 := by
  show IntOp.cmpi .slt (iotaC (ix2 l 0)) (starts f 16) = _
  rw [iotaC_apply, live_word hf l.isLt]

/-- Which positions hold a token, along the row. -/
theorem liveR (l : Fin 1024) : k0_pay38 (starts f 16) iotaR (ix2 0 l) = if l.val < start (nums f) 16 then 1#1 else 0#1 := by
  show IntOp.cmpi .slt (iotaR (ix2 0 l)) (starts f 16) = _
  rw [iotaR_apply, live_word hf l.isLt]

/-- The segments, down the column. -/
theorem capC (l : Fin 1024) : k0_pay39 (starts f 14) (starts f 15) iotaC (count13 (starts f)) (ix2 l 0) = BitVec.ofNat 32 (cap (nums f) l.val) := by
  refine (count_tally (starts f) (ix2 l 0)).trans ?_
  rw [iotaC_apply, tally_eq hf l.isLt 15 (by omega)]
  exact subi_word (b := 1) (by omega)

/-- The segments, along the row. -/
theorem capR (l : Fin 1024) :
    k0_pay40 (starts f 14) (starts f 15) iotaR (countR12 (starts f)) (k0_pay33 (starts f 13) iotaR) (ix2 0 l) = BitVec.ofNat 32 (cap (nums f) l.val) := by
  refine (countR_tally (starts f) (ix2 0 l)).trans ?_
  rw [iotaR_apply, tally_eq hf l.isLt 15 (by omega)]
  exact subi_word (b := 1) (by omega)

/-- Where the segments begin, down the column. -/
theorem startC (l : Fin 1024) :
    k0_pay36 (starts f 13) (starts f 14) (starts f 15) iotaC (spos12 (starts f)) (reach13 (starts f)) (ix2 l 0)
      = BitVec.ofNat 32 (start (nums f) (cap (nums f) l.val)) := by
  refine (start_latest (starts f) (ix2 l 0)).trans ?_
  rw [iotaC_apply, latest_eq hf l.isLt 15 (by omega)]; rfl

/-- The places in the segments, down the column. -/
theorem posC (l : Fin 1024) :
    k0_pay42 (starts f 13) (starts f 14) (starts f 15) iotaC (spos12 (starts f)) (reach13 (starts f)) (ix2 l 0)
      = BitVec.ofNat 32 (pos (nums f) l.val) := by
  show IntOp.subi (iotaC (ix2 l 0)) (k0_pay36 (starts f 13) (starts f 14) (starts f 15) iotaC (spos12 (starts f)) (reach13 (starts f)) (ix2 l 0)) = _
  rw [startC hf, iotaC_apply, subi_word (start_cap_le _)]; rfl

/-- The mask: 0 at the live positions, 1 past them. -/
theorem mask_apply (l : Fin 1024) : (maskOut (F := F) (starts f) (ix3 0 0 l) : BitVec 32) = if l.val < start (nums f) 16 then 0#32 else 1#32 := by
  unfold maskOut k0_pay2
  refine (shapeCast_apply _ shapeCasts_S1x1024_S1x1x1024 (ix3 0 0 l) (ix2 0 l) (by rw [rowMajor_val3 _ 1024 1024 rfl rfl, rowMajor_val2 _ 1024 rfl]; rfl)).trans ?_
  show (IntOp.xori (k0_pay38 (starts f 16) iotaR (ix2 0 l)) 1#1).setWidth 32 = _
  rw [liveR hf]
  split <;> rfl

/-- What the attention mask compares at a position: its segment, or past the live ones a number of its own. -/
def tag (f : Fin 16 → BitVec 32) (l : ℕ) : ℕ := if l < start (nums f) 16 then cap (nums f) l else 16 + l

/-- A tag is small. -/
theorem tag_lt {l : ℕ} (hl : l < 1024) : tag f l < 2 ^ 31 := by
  unfold tag; have := cap_le (len := nums f) l; split <;> omega

/-- The attention mask: 1 where the two positions differ in what they compare. -/
theorem att_apply (r c : Fin 1024) : (attOut (F := F) (starts f) (ix3 0 r c) : BitVec 32) = if tag f r.val = tag f c.val then 0#32 else 1#32 := by
  unfold attOut k0_pay3
  refine (shapeCast_apply _ shapeCasts_S1024x1024_S1x1024x1024 (ix3 0 r c) (ix2 r c) (by rw [rowMajor_val3 _ (1024 * 1024) 1024 rfl rfl, rowMajor_val2 _ 1024 rfl]; show r.val * 1024 + c.val = 0 * (1024 * 1024) + r.val * 1024 + c.val; omega)).trans ?_
  have hC : Scalar.select (k0_pay37 (starts f 16) iotaC (ix2 r 0)) (k0_pay39 (starts f 14) (starts f 15) iotaC (count13 (starts f)) (ix2 r 0))
      (IntOp.addi 16#32 (iotaC (ix2 r 0))) = BitVec.ofNat 32 (tag f r.val) := by
    rw [liveC hf, capC hf, iotaC_apply]; unfold tag; split
    · rfl
    · exact addi_word 16 _ |>.trans (by congr 2; simp; omega)
  have hR : Scalar.select (k0_pay38 (starts f 16) iotaR (ix2 0 c)) (k0_pay40 (starts f 14) (starts f 15) iotaR (countR12 (starts f)) (k0_pay33 (starts f 13) iotaR) (ix2 0 c))
      (IntOp.addi 16#32 (iotaR (ix2 0 c))) = BitVec.ofNat 32 (tag f c.val) := by
    rw [liveR hf, capR hf, iotaR_apply]; unfold tag; split
    · rfl
    · exact addi_word 16 _ |>.trans (by congr 2; simp; omega)
  have bC : ∀ x : IVec S1024x1 32, broadcastTo S1024x1024 x broadcasts_S1024x1_S1024x1024 (ix2 r c) = x (ix2 r 0) := fun x =>
    broadcastTo_apply x _ _ _ (by intro a; fin_cases a <;> rfl)
  have bR : ∀ x : IVec S1x1024 32, broadcastTo S1024x1024 x broadcasts_S1x1024_S1024x1024 (ix2 r c) = x (ix2 0 c) := fun x =>
    broadcastTo_apply x _ _ _ (by intro a; fin_cases a <;> rfl)
  show (IntOp.cmpi .ne (broadcastTo S1024x1024 _ _ (ix2 r c)) (broadcastTo S1024x1024 _ _ (ix2 r c))).setWidth 32 = _
  rw [bC, bR]
  refine (congrArg₂ (fun x y : BitVec 32 => (IntOp.cmpi .ne x y).setWidth 32) hC hR).trans ?_
  have h1 := tag_lt hf r.isLt
  have h2 := tag_lt hf c.isLt
  split
  · rename_i h; rw [h]; show (BitVec.ofBool (_ != _)).setWidth 32 = _; simp
  · rename_i h
    have hne : BitVec.ofNat 32 (tag f r.val) ≠ BitVec.ofNat 32 (tag f c.val) := by
      intro e; apply h
      have := congrArg BitVec.toNat e
      simp only [BitVec.toNat_ofNat] at this
      omega
    show (BitVec.ofBool (_ != _)).setWidth 32 = _
    rw [bne_iff_ne.2 hne]; rfl

end Cert.Rows
-- ==== Proof.Rows.Floats.lean ====
/-
  What the main kernel body's two float arrays hold at exact arithmetic: a product by a one-hot matrix reads one row, so
  the projection holds the projected feature row of the position's place, and the positional array the table's row.
-/
module

public import proofs.«01_k».proof.Proof.Rows.Ints
public import Idealize.ShloMosaic.Lib.ValueIdx
public import Idealize.ShloMosaic.Lib.MatmulPlain
public import Idealize.ShloMosaic.PureOps.IdealRules

@[expose] public section

set_option maxRecDepth 16384

noncomputable section

namespace Cert.Rows

open Cert.KernelIdeal Cert.KernelIdeal.Gen Cert.KernelIdeal.Run Cert.Words Cert.Pack
open Idealize.ShloMosaic hiding ix1 ix2 ix3
open Idealize.ShloMosaic.ValueIdx

/-- One entry of a one-hot row: one where the column number is the word chosen, zero elsewhere. -/
def hot (k w : BitVec 32) : EReal := FloatOps.sitofp (F := Ideal) .f32 ((IntOp.cmpi .eq k w).setWidth 32)

/-- A column other than the chosen one holds zero. -/
theorem hot_ne {k w : BitVec 32} (h : k ≠ w) : hot k w = 0 := by
  have : IntOp.cmpi .eq k w = 0#1 := by
    have e : (k == w) = false := by simp [h]
    show BitVec.ofBool (k == w) = 0#1
    rw [e]; rfl
  unfold hot; rw [this]
  show (((0 : ℤ) : ℝ) : EReal) = 0
  simp

/-- The chosen column holds one. -/
theorem hot_self (k : BitVec 32) : hot k k = 1 := by
  have : IntOp.cmpi .eq k k = 1#1 := by simp [IntOp.cmpi]
  unfold hot; rw [this]
  show (((1 : ℤ) : ℝ) : EReal) = 1
  simp

/-- The sum of a column against a one-hot row is the chosen entry. -/
theorem sum_hot {K : ℕ} (hK : K ≤ 1024) (y : Fin K → EReal) (n : Fin K) :
    ∑ k : Fin K, hot (BitVec.ofNat 32 k.val) (BitVec.ofNat 32 n.val) * y k = y n := by
  rw [Finset.sum_eq_single n, hot_self, one_mul]
  · intro k _ hk
    rw [hot_ne, zero_mul]
    intro h
    refine hk (Fin.ext ?_)
    have := congrArg BitVec.toNat h
    simp only [BitVec.toNat_ofNat] at this
    have := k.isLt; have := n.isLt; omega
  · intro h; exact absurd (Finset.mem_univ _) h

/-- A row whose chosen word is all ones picks nothing. -/
theorem sum_cold {K : ℕ} (hK : K ≤ 1024) (y : Fin K → EReal) :
    ∑ k : Fin K, hot (BitVec.ofNat 32 k.val) 4294967295#32 * y k = 0 := by
  refine Finset.sum_eq_zero fun k _ => ?_
  rw [hot_ne, zero_mul]
  intro h
  have := congrArg BitVec.toNat h
  simp only [BitVec.toNat_ofNat] at this
  have := k.isLt; omega

/-- A quarter of a lane number, as the body's floor division computes it. -/
def quarter (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 4#32 0#32)) (Scalar.extui (Scalar.cmpi .slt 4#32 0#32))))
      (IntOp.cmpi .ne (IntOp.remsi .vector x 4#32) 0#32))
    (IntOp.subi (IntOp.divsi .vector x 4#32) 1#32) (IntOp.divsi .vector x 4#32)

/-- The body's division of a lane number by four. -/
theorem quarter_eq : ∀ d : Fin 256, quarter (BitVec.ofNat 32 d.val) = BitVec.ofNat 32 (d.val / 4) := by decide +kernel

/-- Whether a lane is even, as the body's remainder computes it. -/
def evenLane (x : BitVec 32) : BitVec 1 :=
  let two : BitVec 32 := Scalar.select (Scalar.cmpi .eq 2#32 0#32) 1#32 2#32
  let r := IntOp.remsi .vector x two
  IntOp.cmpi .eq
    (Scalar.select (IntOp.andi (IntOp.xori (IntOp.cmpi .slt r 0#32) (Scalar.cmpi .slt two 0#32)) (IntOp.cmpi .ne r 0#32))
      (IntOp.addi r two) r) 0#32

/-- The body's test for an even lane. -/
theorem evenLane_eq : ∀ d : Fin 256, evenLane (BitVec.ofNat 32 d.val) = if d.val % 2 = 0 then 1#1 else 0#1 := by
  decide +kernel

/-- The table's entry for place `t` of a segment and lane `d`. -/
def entry (t d : ℕ) : ℝ :=
  let a : ℝ := t * Real.exp ((d / 4 : ℕ) * (-(Real.log 10000) * 64⁻¹))
  if d % 2 = 0 then Real.sin a else Real.cos a

/-- The table the body computes. -/
def table : FVec Ideal S64x256 .f32 := k0_pay8 k0_pay5 (iota .tc S64x256 32 [1] iota_S64x256_d1_w32) k0_pay6 k0_pay7

/-- The lane numbers of the table. -/
theorem lane_apply (t : Fin 64) (d : Fin 256) :
    iota .tc S64x256 32 [1] iota_S64x256_d1_w32 (ix2 t d) = BitVec.ofNat 32 d.val :=
  iota_single_apply _ _ _ _ _ _

/-- A small natural word read as a number. -/
theorem sitofp_word {n : ℕ} (hn : n < 2 ^ 31) : (FloatOps.sitofp (F := Ideal) .f32 (BitVec.ofNat 32 n) : EReal) = ((n : ℝ) : EReal) := by
  show ((((BitVec.ofNat 32 n).toInt : ℤ) : ℝ) : EReal) = _
  rw [BitVec.toInt_eq_toNat_of_lt (by simp; omega)]
  simp only [BitVec.toNat_ofNat]
  rw [Nat.mod_eq_of_lt (by omega)]
  simp

/-- The table, entry by entry. -/
theorem table_apply (t : Fin 64) (d : Fin 256) : table (ix2 t d) = ((entry t.val d.val : ℝ) : EReal) := by
  have h5 : (k0_pay5 (F := Ideal) (ix2 t d) : EReal) = ((t.val : ℝ) : EReal) :=
    (show k0_pay5 (F := Ideal) (ix2 t d) = FloatOps.sitofp (F := Ideal) .f32 (BitVec.ofNat 32 t.val) from
      congrArg (FloatOps.sitofp (F := Ideal) .f32) (iota_single_apply _ _ _ _ _ _)).trans
      (sitofp_word (by omega))
  have h6 : (k0_pay6 (F := Ideal) (ix2 t d) : EReal) = (((d.val / 4 : ℕ) : ℝ) : EReal) :=
    (show k0_pay6 (F := Ideal) (ix2 t d) = FloatOps.sitofp (F := Ideal) .f32 (quarter (BitVec.ofNat 32 d.val)) from
      congrArg (fun z => FloatOps.sitofp (F := Ideal) .f32 (quarter z)) (lane_apply t d)).trans
      (by rw [quarter_eq]; exact sitofp_word (by omega))
  have h7 : (k0_pay7 (F := Ideal) (ix2 t d) : EReal) = (((-(Real.log 10000)) * 64⁻¹ : ℝ) : EReal) :=
    IdealRules.named_const.ideal_named_scalar _ _ _ _ rfl
  have e : table (ix2 t d) = Scalar.select (evenLane (BitVec.ofNat 32 d.val))
      (Ideal.sin (k0_pay5 (F := Ideal) (ix2 t d) * Ideal.exp (k0_pay6 (F := Ideal) (ix2 t d) * k0_pay7 (F := Ideal) (ix2 t d))))
      (Ideal.cos (k0_pay5 (F := Ideal) (ix2 t d) * Ideal.exp (k0_pay6 (F := Ideal) (ix2 t d) * k0_pay7 (F := Ideal) (ix2 t d)))) :=
    congrArg (fun z => Scalar.select (evenLane z) _ _) (lane_apply t d)
  rw [e, h5, h6, h7, evenLane_eq, ← EReal.coe_mul, Ideal.exp_coe, ← EReal.coe_mul]
  unfold entry
  by_cases h : d.val % 2 = 0
  · rw [if_pos h, if_pos h]; rfl
  · rw [if_neg h, if_neg h]; rfl

variable {f : Fin 16 → BitVec 32} (hf : ∀ n, (f n).toNat ≤ 64)

attribute [local irreducible] starts start

/-- The projected feature row `k`, lane `d`, of one batch row. -/
def rowOf (x : FVec Ideal S1x1024x512 .f32) (w : FVec Ideal S256x512 .f32) (b : FVec Ideal S1x256 .f32) (k : Fin 1024) (d : Fin 256) : EReal :=
  (∑ c : Fin 512, x (ix3 0 k c) * w (ix2 d c)) + b (ix2 0 d)

/-- The projected features, entry by entry. -/
theorem acc_apply (x : FVec Ideal S1x1024x512 .f32) (w : FVec Ideal S256x512 .f32) (b : FVec Ideal S1x256 .f32) (k : Fin 1024) (d : Fin 256) :
    (k0_pay4 (F := Ideal) x w b (ix2 k d) : EReal) = rowOf x w b k d := by
  unfold k0_pay4
  refine (shapeCast_apply _ _ (ix2 k d) (ix2 k d) rfl).trans ?_
  unfold rowOf
  refine congrArg₂ (fun p q : EReal => p + q) ?_ ?_
  · rw [show dot_S1024x512_S256x512_S1024x256_1_1_0_0_n_n = DotDims.transposedRhs 1024 512 256 from rfl]
    refine (Ideal.matmul_transposedRhs_apply _ _ _ _ k d).trans ?_
    rw [show (constant S1024x256 .f32 0x00000000#32 : FVec Ideal S1024x256 .f32) (ix2 k d) = 0 from Ideal.ofBits_zero_f32, zero_add]
    refine Finset.sum_congr rfl fun c _ => ?_
    refine congrArg (fun z : EReal => z * w (ix2 d c)) ?_
    refine shapeCast_apply _ _ (ix2 k c) (ix3 0 k c) ?_
    rw [rowMajor_val3 _ (1024 * 512) 512 rfl rfl, rowMajor_val2 _ 512 rfl]
    show 0 * (1024 * 512) + k.val * 512 + c.val = k.val * 512 + c.val
    omega
  · refine (broadcastTo_apply _ _ (ix2 k d) (ix2 0 d) ?_).trans (shapeCast_apply _ _ _ _ rfl)
    intro a; fin_cases a <;> rfl

/-- A one-hot row whose word is `n` where `live` and all ones elsewhere picks entry `n` or zero. -/
theorem sum_pick {K : ℕ} (hK : K ≤ 1024) (y : Fin K → EReal) {live : Prop} [Decidable live] (n : ℕ) (hn : live → n < K) :
    ∑ k : Fin K, hot (BitVec.ofNat 32 k.val) (if live then BitVec.ofNat 32 n else 4294967295#32) * y k
      = if h : live then y ⟨n, hn h⟩ else 0 := by
  by_cases h : live
  · rw [dif_pos h, if_pos h]; exact sum_hot hK y ⟨n, hn h⟩
  · rw [dif_neg h, if_neg h]; exact sum_cold hK y

include hf in
/-- The place a live row position reads, all ones elsewhere. -/
theorem pick_word (l : Fin 1024) :
    Scalar.select (k0_pay37 (starts f 16) iotaC (ix2 l 0))
      (IntOp.addi (IntOp.muli (k0_pay39 (starts f 14) (starts f 15) iotaC (count13 (starts f)) (ix2 l 0)) 64#32)
        (k0_pay42 (starts f 13) (starts f 14) (starts f 15) iotaC (spos12 (starts f)) (reach13 (starts f)) (ix2 l 0)))
      4294967295#32
    = if l.val < start (nums f) 16 then BitVec.ofNat 32 (src (nums f) l.val) else 4294967295#32 := by
  rw [liveC hf, capC hf, posC hf]
  by_cases h : l.val < start (nums f) 16
  · rw [if_pos h, if_pos h, select_one]
    show BitVec.ofNat 32 _ * BitVec.ofNat 32 64 + BitVec.ofNat 32 _ = _
    rw [← BitVec.ofNat_mul, ← BitVec.ofNat_add, Nat.mul_comm]; rfl
  · rw [if_neg h, if_neg h, select_zero]

include hf in
/-- The projection: a live position holds the projected row of its place, any other zero. -/
theorem proj_apply (x : FVec Ideal S1x1024x512 .f32) (w : FVec Ideal S256x512 .f32) (b : FVec Ideal S1x256 .f32) (l : Fin 1024) (d : Fin 256) :
    (projOut (F := Ideal) (starts f) x w b (ix3 0 l d) : EReal)
      = if h : l.val < start (nums f) 16 then rowOf x w b ⟨src (nums f) l.val, src_lt (nums_le hf) h⟩ d else 0 := by
  unfold projOut k0_pay41
  refine (shapeCast_apply _ _ (ix3 0 l d) (ix2 l d) ?_).trans ?_
  · rw [rowMajor_val3 _ (1024 * 256) 256 rfl rfl, rowMajor_val2 _ 256 rfl]
    show l.val * 256 + d.val = 0 * (1024 * 256) + l.val * 256 + d.val
    omega
  rw [show dot_S1024x1024_S1024x256_S1024x256_1_0_0_1_n_n = DotDims.plain 1024 1024 256 from rfl]
  refine (Ideal.matmul_plain_apply _ _ _ _ l d).trans ?_
  rw [show (constant S1024x256 .f32 0x00000000#32 : FVec Ideal S1024x256 .f32) (ix2 l d) = 0 from Ideal.ofBits_zero_f32, zero_add]
  refine Eq.trans ?_ (sum_pick le_rfl (fun k => rowOf x w b k d) (src (nums f) l.val) (fun h => src_lt (nums_le hf) h))
  refine Finset.sum_congr rfl fun k _ => ?_
  refine congrArg₂ (fun p q : EReal => p * q) ?_ (acc_apply x w b k d)
  refine congrArg₂ hot ?_ ?_
  · refine (broadcastTo_apply _ _ (ix2 l k) (ix2 0 k) ?_).trans (iotaR_apply k)
    intro a; fin_cases a <;> rfl
  · refine (broadcastTo_apply _ _ (ix2 l k) (ix2 l 0) ?_).trans (pick_word hf l)
    intro a; fin_cases a <;> rfl

include hf in
/-- The positional array: a position holds the table's row of its place within its segment, or the first row. -/
theorem pos_apply (l : Fin 1024) (d : Fin 256) :
    (posOut (F := Ideal) (starts f) (ix3 0 l d) : EReal)
      = ((entry (if l.val < start (nums f) 16 then pos (nums f) l.val else 0) d.val : ℝ) : EReal) := by
  have hn : (if l.val < start (nums f) 16 then pos (nums f) l.val else 0) < 64 := by
    split
    · exact pos_lt_64 (nums_le hf) ‹_›
    · omega
  change (k0_pay1 (F := Ideal) table _ _ (ix3 0 l d) : EReal) = _
  unfold k0_pay1
  refine (shapeCast_apply _ _ (ix3 0 l d) (ix2 l d) ?_).trans ?_
  · rw [rowMajor_val3 _ (1024 * 256) 256 rfl rfl, rowMajor_val2 _ 256 rfl]
    show l.val * 256 + d.val = 0 * (1024 * 256) + l.val * 256 + d.val
    omega
  rw [show dot_S1024x64_S64x256_S1024x256_1_0_0_1_n_n = DotDims.plain 1024 64 256 from rfl]
  refine (Ideal.matmul_plain_apply _ _ _ _ l d).trans ?_
  rw [show (constant S1024x256 .f32 0x00000000#32 : FVec Ideal S1024x256 .f32) (ix2 l d) = 0 from Ideal.ofBits_zero_f32, zero_add]
  refine Eq.trans ?_ ((sum_hot (by omega) (fun k : Fin 64 => table (ix2 k d)) ⟨_, hn⟩).trans (table_apply ⟨_, hn⟩ d))
  refine Finset.sum_congr rfl fun k _ => ?_
  refine congrArg (fun z : EReal => z * table (ix2 k d)) ?_
  refine congrArg₂ hot ?_ ?_
  · refine (broadcastTo_apply _ _ (ix2 l k) (ix2 0 k) ?_).trans (iota_single_apply _ _ _ _ _ _)
    intro a; fin_cases a <;> rfl
  · refine (broadcastTo_apply _ _ (ix2 l k) (ix2 l 0) ?_).trans ?_
    · intro a; fin_cases a <;> rfl
    show Scalar.select (k0_pay37 (starts f 16) iotaC (ix2 l 0))
      (k0_pay42 (starts f 13) (starts f 14) (starts f 15) iotaC (spos12 (starts f)) (reach13 (starts f)) (ix2 l 0)) 0#32 = _
    rw [liveC hf, posC hf]
    by_cases h : l.val < start (nums f) 16
    · simp only [if_pos h]; rfl
    · simp only [if_neg h]; rfl

end Cert.Rows

end
-- ==== Proof.Ref.Mask.lean ====
/-
  The two masks of the reference, entry by entry: the packed positions past the tokens, and the pairs of positions that may
  not attend to one another.
-/
module

public import proofs.«01_k».proof.Proof.Ref.Tokens

@[expose] public section

set_option maxRecDepth 16384

noncomputable section

namespace Cert.Ref

open Cert.ReferenceIdeal Cert.ReferenceIdeal.Gen Cert.Pack
open Idealize.ShloMosaic hiding ix1 ix2 ix3
open Idealize.ShloMosaic.TcCoe
open Idealize.ShloMosaic.ValueIdx

/-- A per-position array read along the rows of the pairs of positions. -/
def alongRows {w : ℕ} (x : IVec S8x1024 w) : IVec S8x1024x1024 w :=
  broadcastInDim S8x1024x1024 ![0, 1, 2] bcast_S8x1024x1_S8x1024x1024_0_1_2 (broadcastInDim S8x1024x1 ![0, 1] bcast_S8x1024_S8x1024x1_0_1 x)

/-- A per-position array read along the columns. -/
def alongCols {w : ℕ} (x : IVec S8x1024 w) : IVec S8x1024x1024 w :=
  broadcastInDim S8x1024x1024 ![0, 1, 2] bcast_S8x1x1024_S8x1024x1024_0_1_2 (broadcastInDim S8x1x1024 ![0, 2] bcast_S8x1024_S8x1x1024_0_2 x)

/-- Reading along the rows, entry by entry. -/
theorem alongRows_apply {w : ℕ} (x : IVec S8x1024 w) (b : Fin 8) (r c : Fin 1024) : alongRows x (ix3 b r c) = x (ix2 b r) := by
  unfold alongRows
  refine (broadcastInDim_apply _ _ _ _ (ix3 b r 0) (by intro a; fin_cases a <;> rfl)).trans ?_
  exact broadcastInDim_apply _ _ _ _ (ix2 b r) (by intro a; fin_cases a <;> rfl)

/-- Reading along the columns, entry by entry. -/
theorem alongCols_apply {w : ℕ} (x : IVec S8x1024 w) (b : Fin 8) (r c : Fin 1024) : alongCols x (ix3 b r c) = x (ix2 b c) := by
  unfold alongCols
  refine (broadcastInDim_apply _ _ _ _ (ix3 b 0 c) (by intro a; fin_cases a <;> rfl)).trans ?_
  exact broadcastInDim_apply _ _ _ _ (ix2 b c) (by intro a; fin_cases a <;> rfl)

/-- The pairs of different positions. -/
def offDiag : IVec S8x1024x1024 1 :=
  broadcastInDim S8x1024x1024 ![0, 1, 2] bcast_S1x1024x1024_S8x1024x1024_0_1_2 (broadcastInDim S1x1024x1024 ![1, 2] bcast_S1024x1024_S1x1024x1024_1_2
    (noti (cmpi .eq (addi (iotaInDim S1024x1024 32 0) (broadcastInDim S1024x1024 ![] bcast_S_S1024x1024 (constantI S_ 32 0#32))) (iotaInDim S1024x1024 32 1))))

/-- Two small words compare as the numbers they spell. -/
theorem eq_word {p q : ℕ} (hp : p < 2 ^ 32) (hq : q < 2 ^ 32) :
    IntOp.cmpi .eq (BitVec.ofNat 32 p) (BitVec.ofNat 32 q) = if p = q then 1#1 else 0#1 := by
  show BitVec.ofBool (BitVec.ofNat 32 p == BitVec.ofNat 32 q) = _
  by_cases h : p = q
  · rw [if_pos h, h]; simp
  · rw [if_neg h]
    have : (BitVec.ofNat 32 p == BitVec.ofNat 32 q) = false := by
      refine beq_eq_false_iff_ne.2 fun e => h ?_
      have := congrArg BitVec.toNat e
      simp only [BitVec.toNat_ofNat] at this
      omega
    rw [this]; rfl

/-- Off the diagonal, entry by entry. -/
theorem offDiag_apply (b : Fin 8) (r c : Fin 1024) : offDiag (ix3 b r c) = if r.val = c.val then 0#1 else 1#1 := by
  unfold offDiag
  refine (broadcastInDim_apply _ _ _ _ (ix3 0 r c) (by intro a; fin_cases a <;> rfl)).trans ?_
  refine (broadcastInDim_apply _ _ _ _ (ix2 r c) (by intro a; fin_cases a <;> rfl)).trans ?_
  show ~~~ (IntOp.cmpi .eq (BitVec.ofNat 32 r.val + 0#32) (BitVec.ofNat 32 c.val)) = _
  rw [BitVec.add_zero, eq_word (by omega) (by omega)]
  by_cases h : r.val = c.val <;> simp [h]

/-- The pairs that may not attend to one another. -/
def att (ln : Lens) : IVec S8x1024x1024 1 :=
  select (andi (alongRows (live ln)) (alongCols (live ln))) (noti (cmpi .eq (alongRows (caps ln)) (alongCols (caps ln)))) offDiag

/-- Positions past the tokens. -/
def pad (ln : Lens) : IVec S8x1024 1 := noti (live ln)

variable {F : FTy → Type} [FloatOps F]

/-- The run's result is the attention mask of the lengths. -/
theorem res_att (m : (ℓ : Loc nD τ sig) → Buf (Elt F) ℓ) (c : Dev nD) :
    Value.res_main_v66 m c = att (m ((c.tc : Thread nD τ).loc main_arg1)) := by
  unfold Value.res_main_v66; rfl

variable {ln : Lens}

/-- The padding mask, entry by entry. -/
theorem pad_apply (h : InRange ln) (b : Fin 8) (l : Fin 1024) :
    pad ln (ix2 b l) = if l.val < start (lenOf ln b) 16 then 0#1 else 1#1 := by
  show ~~~ (live ln (ix2 b l)) = _
  rw [live_apply h]
  split <;> rfl

/-- One tag per position: its segment, or its own number past every segment. -/
def tag (len : ℕ → ℕ) (l : ℕ) : ℕ := if l < start len 16 then cap len l else 16 + l

/-- The attention mask, entry by entry: set where the tags differ. -/
theorem att_apply (h : InRange ln) (b : Fin 8) (r c : Fin 1024) :
    att ln (ix3 b r c) = if tag (lenOf ln b) r.val = tag (lenOf ln b) c.val then 0#1 else 1#1 := by
  show Scalar.select (IntOp.andi (alongRows (live ln) (ix3 b r c)) (alongCols (live ln) (ix3 b r c)))
    (~~~ (IntOp.cmpi .eq (alongRows (caps ln) (ix3 b r c)) (alongCols (caps ln) (ix3 b r c)))) (offDiag (ix3 b r c)) = _
  rw [alongRows_apply, alongRows_apply, alongCols_apply, alongCols_apply, offDiag_apply, live_apply h, live_apply h, caps_apply h, caps_apply h]
  have hr := cap_le (len := lenOf ln b) r.val
  have hc := cap_le (len := lenOf ln b) c.val
  unfold tag
  by_cases h1 : r.val < start (lenOf ln b) 16 <;> by_cases h2 : c.val < start (lenOf ln b) 16
  · simp only [if_pos h1, if_pos h2]
    rw [eq_word (by omega) (by omega)]
    by_cases e : cap (lenOf ln b) r.val = cap (lenOf ln b) c.val
    · simp only [if_pos e]; rfl
    · simp only [if_neg e]; rfl
  · simp only [if_pos h1, if_neg h2]
    rw [if_neg (show ¬ cap (lenOf ln b) r.val = 16 + c.val by omega), if_neg (show ¬ r.val = c.val by omega)]; rfl
  · simp only [if_neg h1, if_pos h2]
    rw [if_neg (show ¬ 16 + r.val = cap (lenOf ln b) c.val by omega), if_neg (show ¬ r.val = c.val by omega)]; rfl
  · simp only [if_neg h1, if_neg h2]
    by_cases e : r.val = c.val
    · rw [if_pos e, if_pos (by omega)]; rfl
    · rw [if_neg e, if_neg (by omega)]; rfl

end Cert.Ref
-- ==== Proof.Ref.Angles.lean ====
/-
  The sine embedding of the reference, entry by entry at exact arithmetic: lane `d` of a position holds the sine (even lanes)
  or cosine (odd lanes) of the position over a power of 10000.
-/
module

public import proofs.«01_k».proof.Proof.Ref.Tokens
public import Idealize.ShloMosaic.PureOps.Ideal

@[expose] public section

set_option maxRecDepth 16384

noncomputable section

namespace Cert.Ref

open Cert.ReferenceIdeal Cert.ReferenceIdeal.Gen Cert.Pack
open Idealize.ShloMosaic hiding ix1 ix2 ix3 ix4
open Idealize.ShloMosaic.TcCoe
open Idealize.ShloMosaic.ValueIdx

/-- The powers of 10000 the positions are divided by. -/
def powers : FVec Ideal S128 .f32 :=
  Host.powf (broadcastInDim S128 ![] bcast_S_S128 (constant S_ .f32 0x461C4000#32))
    (Host.divf (mulf (broadcastInDim S128 ![] bcast_S_S128 (constant S_ .f32 0x40000000#32))
      (Host.floor (Host.divf (sitofp .f32 (iotaInDim S128 32 0)) (broadcastInDim S128 ![] bcast_S_S128 (constant S_ .f32 0x40000000#32)))))
      (broadcastInDim S128 ![] bcast_S_S128 (constant S_ .f32 0x43000000#32)))

/-- The angles. -/
def angles (ln : Lens) : FVec Ideal S8x1024x128 .f32 :=
  Host.divf (broadcastInDim S8x1024x128 ![0, 1, 2] bcast_S8x1024x1_S8x1024x128_0_1_2
      (sitofp .f32 (broadcastInDim S8x1024x1 ![0, 1] bcast_S8x1024_S8x1024x1_0_1 (places ln))))
    (broadcastInDim S8x1024x128 ![0, 1, 2] bcast_S1x1x128_S8x1024x128_0_1_2 (broadcastInDim S1x1x128 ![2] bcast_S128_S1x1x128_2 powers))

/-- The embedding: sines and cosines, interleaved. -/
def embed (ln : Lens) : FVec Ideal S8x1024x256 .f32 :=
  shapeCast _ (concatenate S8x1024x128x2 3
    [⟨S8x1024x128x1, broadcastInDim S8x1024x128x1 ![0, 1, 2] bcast_S8x1024x128_S8x1024x128x1_0_1_2 (Host.sin (angles ln))⟩,
     ⟨S8x1024x128x1, broadcastInDim S8x1024x128x1 ![0, 1, 2] bcast_S8x1024x128_S8x1024x128x1_0_1_2 (Host.cos (angles ln))⟩]
    concatenates_S8x1024x128x1_S8x1024x128x1_S8x1024x128x2_d3) shapeCasts_S8x1024x128x2_S8x1024x256

/-- The run's result is the embedding of the lengths. -/
theorem res_embed (m : (ℓ : Loc nD τ sig) → Buf (Elt Ideal) ℓ) (c : Dev nD) :
    Value.res_main_v93 m c = embed (m ((c.tc : Thread nD τ).loc main_arg1)) := by
  unfold Value.res_main_v93; rfl

/-- The three constants, as numbers. -/
theorem ten_thousand : Ideal.ofBits .f32 0x461C4000#32 = ((10000 : ℝ) : EReal) := by
  simp [Ideal.ofBits, Ideal.ieee, -EReal.coe_mul]; norm_num
/-- The word of two. -/
theorem two : Ideal.ofBits .f32 0x40000000#32 = ((2 : ℝ) : EReal) := by
  simp [Ideal.ofBits, Ideal.ieee, -EReal.coe_mul]; norm_num
/-- The word of a hundred and twenty-eight. -/
theorem one_twenty_eight : Ideal.ofBits .f32 0x43000000#32 = ((128 : ℝ) : EReal) := by
  simp [Ideal.ofBits, Ideal.ieee, -EReal.coe_mul]; norm_num

/-- A small natural word read as a number. -/
theorem sitofp_word {n : ℕ} (hn : n < 2 ^ 31) : (FloatOps.sitofp (F := Ideal) .f32 (BitVec.ofNat 32 n) : EReal) = ((n : ℝ) : EReal) := by
  show ((((BitVec.ofNat 32 n).toInt : ℤ) : ℝ) : EReal) = _
  rw [BitVec.toInt_eq_toNat_of_lt (by simp; omega)]
  simp only [BitVec.toNat_ofNat]
  rw [Nat.mod_eq_of_lt (by omega)]
  simp

/-- Half a small natural number, rounded down. -/
theorem floor_half (n : ℕ) : ⌊(n : ℝ) * (1 / 2)⌋ = ((n / 2 : ℕ) : ℤ) := by
  obtain ⟨q, hq, h1, h2⟩ : ∃ q, n / 2 = q ∧ 2 * q ≤ n ∧ n < 2 * q + 2 := ⟨_, rfl, by omega, by omega⟩
  rw [hq, Int.floor_eq_iff]
  have h1 : ((2 * q : ℕ) : ℝ) ≤ (n : ℝ) := by exact_mod_cast h1
  have h2 : (n : ℝ) < ((2 * q + 2 : ℕ) : ℝ) := by exact_mod_cast h2
  push_cast at h1 h2 ⊢
  constructor <;> linarith

/-- Dividing by a power of 10000 is multiplying by the exponential of a multiple of its logarithm. -/
theorem over_power (t q : ℝ) :
    t * (1 / Real.rpow 10000 (2 * q * (1 / 128))) = t * Real.exp (q * (-(Real.log 10000) * 64⁻¹)) := by
  have e : Real.rpow 10000 (2 * q * (1 / 128)) = Real.exp (Real.log 10000 * (2 * q * (1 / 128))) :=
    Real.rpow_def_of_pos (by norm_num) _
  rw [e, one_div, ← Real.exp_neg]
  congr 2
  have : (2 : ℝ) * q * (1 / 128) = q * 64⁻¹ := by rw [mul_comm 2 q, mul_assoc]; norm_num
  rw [this, neg_mul, mul_neg, mul_left_comm]

/-- The powers of ten thousand, entry by entry. -/
theorem powers_apply (e : Fin 128) : (powers (ix1 e) : EReal) = ((Real.rpow 10000 (2 * ((e.val / 2 : ℕ) : ℝ) * (1 / 128)) : ℝ) : EReal) := by
  have s : (powers (ix1 e) : EReal) = Ideal.pow (Ideal.ofBits .f32 0x461C4000#32)
      (Ideal.div (Ideal.ofBits .f32 0x40000000#32 * Ideal.liftRound Int.floor
        (Ideal.div (FloatOps.sitofp (F := Ideal) .f32 (BitVec.ofNat 32 e.val)) (Ideal.ofBits .f32 0x40000000#32))) (Ideal.ofBits .f32 0x43000000#32)) := rfl
  rw [s, sitofp_word (by omega), ten_thousand, two, one_twenty_eight, Ideal.div_coe (y := 2) (by norm_num), ← EReal.coe_mul]
  rw [show Ideal.liftRound Int.floor (((e.val : ℝ) * (1 / 2) : ℝ) : EReal) = ((((⌊(e.val : ℝ) * (1 / 2)⌋ : ℤ) : ℝ)) : EReal) from rfl, floor_half,
    ← EReal.coe_mul, Ideal.div_coe (by norm_num), ← EReal.coe_mul, Ideal.pow_coe_coe, Int.cast_natCast]

variable {ln : Lens}

attribute [local irreducible] places start

/-- The angle of a position and a pair of lanes. -/
def angle (t e : ℕ) : ℝ := t * Real.exp ((e / 2 : ℕ) * (-(Real.log 10000) * 64⁻¹))

/-- The angles, entry by entry. -/
theorem angles_apply (h : InRange ln) (b : Fin 8) (l : Fin 1024) (e : Fin 128) :
    (angles ln (ix3 b l e) : EReal)
      = ((angle (if l.val < start (lenOf ln b) 16 then pos (lenOf ln b) l.val else 0) e.val : ℝ) : EReal) := by
  have hn : (if l.val < start (lenOf ln b) 16 then pos (lenOf ln b) l.val else 0) < 2 ^ 31 := by
    split
    · have := pos_lt_64 (h.le b) ‹_›; omega
    · omega
  have s : (angles ln (ix3 b l e) : EReal) = Ideal.div
    (broadcastInDim S8x1024x128 ![0, 1, 2] bcast_S8x1024x1_S8x1024x128_0_1_2
      (sitofp (F := Ideal) .f32 (broadcastInDim S8x1024x1 ![0, 1] bcast_S8x1024_S8x1024x1_0_1 (places ln))) (ix3 b l e))
    (broadcastInDim S8x1024x128 ![0, 1, 2] bcast_S1x1x128_S8x1024x128_0_1_2 (broadcastInDim S1x1x128 ![2] bcast_S128_S1x1x128_2 powers) (ix3 b l e)) := rfl
  have hp : broadcastInDim S8x1024x1 ![0, 1] bcast_S8x1024_S8x1024x1_0_1 (places ln) (ix3 b l 0)
      = BitVec.ofNat 32 (if l.val < start (lenOf ln b) 16 then pos (lenOf ln b) l.val else 0) := by
    refine (broadcastInDim_apply _ _ _ _ (ix2 b l) (by intro a; fin_cases a <;> rfl)).trans ?_
    rw [places_apply h]; split <;> rfl
  have hl : (broadcastInDim S8x1024x128 ![0, 1, 2] bcast_S8x1024x1_S8x1024x128_0_1_2
      (sitofp (F := Ideal) .f32 (broadcastInDim S8x1024x1 ![0, 1] bcast_S8x1024_S8x1024x1_0_1 (places ln))) (ix3 b l e) : EReal)
      = (((if l.val < start (lenOf ln b) 16 then pos (lenOf ln b) l.val else 0 : ℕ) : ℝ) : EReal) := by
    refine (broadcastInDim_apply _ _ _ _ (ix3 b l 0) (by intro a; fin_cases a <;> rfl)).trans ?_
    exact (congrArg (FloatOps.sitofp (F := Ideal) .f32) hp).trans (sitofp_word hn)
  have hr : (broadcastInDim S8x1024x128 ![0, 1, 2] bcast_S1x1x128_S8x1024x128_0_1_2 (broadcastInDim S1x1x128 ![2] bcast_S128_S1x1x128_2 powers) (ix3 b l e) : EReal)
      = ((Real.rpow 10000 (2 * ((e.val / 2 : ℕ) : ℝ) * (1 / 128)) : ℝ) : EReal) := by
    refine (broadcastInDim_apply _ _ _ _ (ix3 0 0 e) (by intro a; fin_cases a <;> rfl)).trans ?_
    exact (broadcastInDim_apply _ _ _ _ (ix1 e) (by intro a; fin_cases a; rfl)).trans (powers_apply e)
  have h0 : Real.rpow 10000 (2 * ((e.val / 2 : ℕ) : ℝ) * (1 / 128)) ≠ 0 := ne_of_gt (Real.rpow_pos_of_pos (by norm_num) _)
  rw [s, hl, hr, Ideal.div_coe h0, ← EReal.coe_mul, over_power]
  rfl

/-- The embedding, entry by entry: sines at even lanes, cosines at odd ones. -/
theorem embed_apply (h : InRange ln) (b : Fin 8) (l : Fin 1024) (d : Fin 256) :
    (embed ln (ix3 b l d) : EReal)
      = (((if d.val % 2 = 0 then Real.sin else Real.cos)
          (angle (if l.val < start (lenOf ln b) 16 then pos (lenOf ln b) l.val else 0) (d.val / 2)) : ℝ) : EReal) := by
  have hd : d.val / 2 < 128 := by omega
  have hd2 : d.val % 2 < 2 := by omega
  unfold embed
  refine (shapeCast_apply _ _ (ix3 b l d) (ix4 b l ⟨d.val / 2, hd⟩ ⟨d.val % 2, hd2⟩) ?_).trans ?_
  · rw [rowMajor_val4 _ (1024 * 256) 256 2 rfl rfl rfl, rowMajor_val3 _ (1024 * 256) 256 rfl rfl]
    show b.val * (1024 * 256) + l.val * 256 + d.val / 2 * 2 + d.val % 2 = b.val * (1024 * 256) + l.val * 256 + d.val
    omega
  by_cases p : d.val % 2 = 0
  · rw [if_pos p]
    refine (concatenate_pair_apply_left (t := S8x1024x128x2) (s₁ := S8x1024x128x1) (s₂ := S8x1024x128x1) _ _ _ _ _ rfl (ix4 b l ⟨d.val / 2, hd⟩ (0 : Fin 1)) ?_).trans ?_
    · intro a; fin_cases a <;> first | rfl | exact p.symm
    · refine (broadcastInDim_apply _ _ _ _ (ix3 b l ⟨d.val / 2, hd⟩) (by intro a; fin_cases a <;> rfl)).trans ?_
      show Ideal.sin (angles ln (ix3 b l ⟨d.val / 2, hd⟩)) = _
      rw [angles_apply h]; rfl
  · rw [if_neg p]
    refine (concatenate_pair_apply_right (t := S8x1024x128x2) (s₁ := S8x1024x128x1) (s₂ := S8x1024x128x1) _ _ _ _ _ rfl rfl (ix4 b l ⟨d.val / 2, hd⟩ (0 : Fin 1)) ?_ ?_).trans ?_
    · intro a; fin_cases a <;> first | (intro _; rfl) | (intro q; exact absurd rfl q)
    · show 0 + 1 = d.val % 2
      omega
    · refine (broadcastInDim_apply _ _ _ _ (ix3 b l ⟨d.val / 2, hd⟩) (by intro a; fin_cases a <;> rfl)).trans ?_
      show Ideal.cos (angles ln (ix3 b l ⟨d.val / 2, hd⟩)) = _
      rw [angles_apply h]; rfl

end Cert.Ref
-- ==== Proof.Ref.Feat.lean ====
/-
  The projection of the reference, entry by entry at exact arithmetic: a packed position's features are the features of its
  place, zero past the tokens, and the projection is their product with the weights plus the bias.
-/
module

public import proofs.«01_k».proof.Proof.Ref.Tokens
public import Idealize.ShloMosaic.PureOps.Ideal.Laws
public import Idealize.ShloMosaic.Lib.ValueLayout

@[expose] public section

set_option maxRecDepth 16384

noncomputable section

namespace Cert.Ref

open Cert.ReferenceIdeal Cert.ReferenceIdeal.Gen Cert.Pack
open Idealize.ShloMosaic hiding ix1 ix2 ix3
open Idealize.ShloMosaic.TcCoe
open Idealize.ShloMosaic.ValueIdx

/-- The places, one start index each. -/
def starts3 (ln : Lens) : IVec S8x1024x1 32 := broadcastInDim S8x1024x1 ![0, 1] bcast_S8x1024_S8x1024x1_0_1 (order ln)

/-- The same, a negative one counted from the end. -/
def wrapped3 (ln : Lens) : IVec S8x1024x1 32 :=
  select (cmpi .slt (starts3 ln) (broadcastInDim S8x1024x1 ![] bcast_S_S8x1024x1 (constantI S_ 32 0#32)))
    (addi (starts3 ln) (broadcastInDim S8x1024x1 ![] bcast_S_S8x1024x1 (constantI S_ 32 1024#32))) (starts3 ln)

/-- Which start indices lie inside the array. -/
def inside (ln : Lens) : IVec S8x1024 1 :=
  Host.reduce IntOp.andi
    (andi (cmpi .sge (wrapped3 ln) (broadcastInDim S8x1024x1 ![] bcast_S_S8x1024x1 (constantI S_ 32 0#32)))
      (cmpi .sle (wrapped3 ln) (broadcastInDim S8x1024x1 ![0, 1, 2] bcast_S1x1x1_S8x1024x1_0_1_2 (broadcastInDim S1x1x1 ![2] bcast_S1_S1x1x1_2 (constantI S1 32 1023#32)))))
    (constantI S_ 1 1#1) reducesTo_S8x1024x1_S8x1024_d2 h_S_

/-- The packed features. -/
def feats (ln : Lens) (x : FVec Ideal S8x1024x512 .f32) : FVec Ideal S8x1024x512 .f32 :=
  select (broadcastInDim S8x1024x512 ![0, 1, 2] bcast_S8x1024x1_S8x1024x512_0_1_2 (broadcastInDim S8x1024x1 ![0, 1] bcast_S8x1024_S8x1024x1_0_1 (live ln)))
    (select (broadcastInDim S8x1024x512 ![0, 1] bcast_S8x1024_S8x1024x512_0_1 (inside ln))
      (Host.gather gather_S8x1024x512_S8x1024x1_S8x1024x512_2_1_0_0_1_2_11512 x (wrapped3 ln))
      (broadcastInDim S8x1024x512 ![] bcast_S_S8x1024x512 (constant S_ .f32 0x7FC00000#32)))
    (broadcastInDim S8x1024x512 ![] bcast_S_S8x1024x512 (id (constant S_ .f32 0x00000000#32)))

/-- The projection. -/
def project (ln : Lens) (x : FVec Ideal S8x1024x512 .f32) (w : FVec Ideal S256x512 .f32) (b : FVec Ideal S256 .f32) : FVec Ideal S8x1024x256 .f32 :=
  addf (Host.dotGeneral dot_S8x1024x512_S512x256_S8x1024x256_2_0_01_1_n_n none (feats ln x) (transpose S512x256 [1, 0] w transposes_S256x512_S512x256_1_0))
    (broadcastInDim S8x1024x256 ![0, 1, 2] bcast_S1x1x256_S8x1024x256_0_1_2 (broadcastInDim S1x1x256 ![2] bcast_S256_S1x1x256_2 b))

/-- The run's result is the projection of the arguments. -/
theorem res_project (m : (ℓ : Loc nD τ sig) → Buf (Elt Ideal) ℓ) (c : Dev nD) :
    Value.res_main_v71 m c = project (m ((c.tc : Thread nD τ).loc main_arg1))
      (shapeCast _ (m ((c.tc : Thread nD τ).loc main_arg0)) shapeCasts_S8x16x64x512_S8x1024x512)
      (m ((c.tc : Thread nD τ).loc main_arg2)) (m ((c.tc : Thread nD τ).loc main_arg3)) := by
  unfold Value.res_main_v71; rfl

variable {ln : Lens}

attribute [local irreducible] order start src live

/-- A token's start index is its place. -/
theorem wrapped3_apply (h : InRange ln) (b : Fin 8) (l : Fin 1024) (hl : l.val < start (lenOf ln b) 16) :
    wrapped3 ln (ix3 b l 0) = BitVec.ofNat 32 (src (lenOf ln b) l.val) := by
  have e : starts3 ln (ix3 b l 0) = BitVec.ofNat 32 (src (lenOf ln b) l.val) :=
    (broadcastInDim_apply _ _ _ _ (ix2 b l) (by intro a; fin_cases a <;> rfl)).trans (order_apply h b l hl)
  show Scalar.select (IntOp.cmpi .slt (starts3 ln (ix3 b l 0)) 0#32) _ (starts3 ln (ix3 b l 0)) = _
  rw [e, not_neg (src_lt (h.le b) hl)]
  rfl

/-- A small word is at least zero and at most 1023. -/
theorem small_inside {n : ℕ} (hn : n < 1024) :
    IntOp.andi (IntOp.cmpi .sge (BitVec.ofNat 32 n) 0#32) (IntOp.cmpi .sle (BitVec.ofNat 32 n) 1023#32) = 1#1 := by
  have i : (BitVec.ofNat 32 n).toInt = n := by
    rw [BitVec.toInt_eq_toNat_of_lt (by simp; omega)]; simp; omega
  have h1 : (0#32 : BitVec 32).sle (BitVec.ofNat 32 n) = true := by rw [BitVec.sle_iff_toInt_le, i]; simp
  have h2 : (BitVec.ofNat 32 n).sle 1023#32 = true := by
    rw [BitVec.sle_iff_toInt_le, i, show (1023#32 : BitVec 32).toInt = 1023 from rfl]; omega
  show IntOp.andi (BitVec.ofBool ((0#32 : BitVec 32).sle (BitVec.ofNat 32 n))) (BitVec.ofBool ((BitVec.ofNat 32 n).sle 1023#32)) = _
  rw [h1, h2]; rfl

/-- The conjunction of a single bit that is set. -/
theorem fold_one (g : Fin 1 → BitVec 1) (hg : g 0 = 1#1) : (Finset.univ : Finset (Fin 1)).fold IntOp.andi 1#1 g = 1#1 := by
  rw [show (Finset.univ : Finset (Fin 1)) = {0} from rfl, Finset.fold_singleton, hg]; rfl

/-- A token's start index lies inside the array. -/
theorem inside_apply (h : InRange ln) (b : Fin 8) (l : Fin 1024) (hl : l.val < start (lenOf ln b) 16) : inside ln (ix2 b l) = 1#1 := by
  have hR : S8x1024x1.Reduces [2] S8x1024 := by decide
  unfold inside
  refine (Host.reduce_eq_fold_single IntOp.andi _ _ _ hR _ _).trans (fold_one _ ?_)
  have hi : hR.lift (ix2 b l) (0 : Fin 1) = ix3 b l 0 := by
    funext a; fin_cases a <;> rfl
  have : IntOp.andi (IntOp.cmpi .sge (wrapped3 ln (ix3 b l 0)) 0#32) (IntOp.cmpi .sle (wrapped3 ln (ix3 b l 0)) 1023#32) = 1#1 := by
    rw [wrapped3_apply h b l hl]; exact small_inside (src_lt (h.le b) hl)
  exact (congrArg (fun i => IntOp.andi (IntOp.cmpi .sge (wrapped3 ln i) 0#32) (IntOp.cmpi .sle (wrapped3 ln i) 1023#32)) hi).trans this

/-- The gather reads the row its start index names. -/
theorem gather_apply (x : FVec Ideal S8x1024x512 .f32) (idx : IVec S8x1024x1 32) (b : Fin 8) (l : Fin 1024) (c : Fin 512)
    {n : ℕ} (hn : n < 1024) (e : idx (ix3 b l 0) = BitVec.ofNat 32 n) :
    Host.gather gather_S8x1024x512_S8x1024x1_S8x1024x512_2_1_0_0_1_2_11512 x idx (ix3 b l c) = x (ix3 b ⟨n, hn⟩ c) := by
  have i : min (BitVec.ofNat 32 n).toInt.toNat (1024 - 1) = n := by
    rw [BitVec.toInt_eq_toNat_of_lt (by simp; omega)]; simp; omega
  unfold Host.gather
  refine congrArg x ?_
  funext a
  refine Fin.ext ?_
  match a with
  | ⟨0, _⟩ => show 0 + b.val + 0 = b.val; omega
  | ⟨1, _⟩ =>
    have hs : (gather_S8x1024x512_S8x1024x1_S8x1024x512_2_1_0_0_1_2_11512).siIdx (ix3 b l c) ⟨0, by decide⟩ = ix3 b l 0 := by
      funext a; refine Fin.ext ?_
      match a with
      | ⟨0, _⟩ => rfl
      | ⟨1, _⟩ => rfl
      | ⟨2, _⟩ => rfl
    show min (idx ((gather_S8x1024x512_S8x1024x1_S8x1024x512_2_1_0_0_1_2_11512).siIdx (ix3 b l c) ⟨0, by decide⟩)).toInt.toNat (1024 - 1) + 0 + 0 = n
    rw [hs, e, i]; rfl
  | ⟨2, _⟩ => show 0 + 0 + c.val = c.val; omega

/-- The packed features, entry by entry: the token's, and zero past the tokens. -/
theorem feats_apply (h : InRange ln) (x : FVec Ideal S8x1024x512 .f32) (b : Fin 8) (l : Fin 1024) (c : Fin 512) :
    (feats ln x (ix3 b l c) : EReal)
      = if hl : l.val < start (lenOf ln b) 16 then x (ix3 b ⟨src (lenOf ln b) l.val, src_lt (h.le b) hl⟩ c) else 0 := by
  have hlive : broadcastInDim S8x1024x512 ![0, 1, 2] bcast_S8x1024x1_S8x1024x512_0_1_2 (broadcastInDim S8x1024x1 ![0, 1] bcast_S8x1024_S8x1024x1_0_1 (live ln)) (ix3 b l c)
      = if l.val < start (lenOf ln b) 16 then 1#1 else 0#1 := by
    refine (broadcastInDim_apply _ _ _ _ (ix3 b l 0) (by intro a; fin_cases a <;> rfl)).trans ?_
    exact (broadcastInDim_apply _ _ _ _ (ix2 b l) (by intro a; fin_cases a <;> rfl)).trans (live_apply h b l)
  have hin (hl : l.val < start (lenOf ln b) 16) : broadcastInDim S8x1024x512 ![0, 1] bcast_S8x1024_S8x1024x512_0_1 (inside ln) (ix3 b l c) = 1#1 :=
    (broadcastInDim_apply _ _ _ _ (ix2 b l) (by intro a; fin_cases a <;> rfl)).trans (inside_apply h b l hl)
  unfold feats
  refine (congrArg (fun z => Scalar.select z _ _) hlive).trans ?_
  by_cases hl : l.val < start (lenOf ln b) 16
  · rw [if_pos hl, dif_pos hl, select_one]
    refine (congrArg (fun z => Scalar.select z _ _) (hin hl)).trans ?_
    rw [select_one]
    exact gather_apply x _ b l c (src_lt (h.le b) hl) (wrapped3_apply h b l hl)
  · rw [if_neg hl, dif_neg hl, select_zero]
    exact Ideal.ofBits_zero_f32

/-- The batched product, entry by entry. -/
theorem dot_apply (x : FVec Ideal S8x1024x512 .f32) (y : FVec Ideal S512x256 .f32) (b : Fin 8) (l : Fin 1024) (d : Fin 256) :
    (Host.dotGeneral dot_S8x1024x512_S512x256_S8x1024x256_2_0_01_1_n_n none x y (ix3 b l d) : EReal)
      = ∑ c : Fin 512, x (ix3 b l c) * y (ix2 c d) := by
  show FloatOps.dotGeneral _ _ _ x y _ = _
  rw [Ideal.dotGeneral_apply, ← Equiv.sum_comp (contrEquiv1 dot_S8x1024x512_S512x256_S8x1024x256_2_0_01_1_n_n 512 rfl rfl).symm]
  refine Finset.sum_congr rfl fun c _ => ?_
  refine congrArg₂ (fun p q : EReal => p * q) (congrArg x ?_) (congrArg y ?_)
  · funext a; refine Fin.ext ?_
    match a with
    | ⟨0, _⟩ => rfl
    | ⟨1, _⟩ => rfl
    | ⟨2, _⟩ => exact contrEquiv1_symm_val dot_S8x1024x512_S512x256_S8x1024x256_2_0_01_1_n_n 512 rfl rfl c
  · funext a; refine Fin.ext ?_
    match a with
    | ⟨0, _⟩ => exact contrEquiv1_symm_val dot_S8x1024x512_S512x256_S8x1024x256_2_0_01_1_n_n 512 rfl rfl c
    | ⟨1, _⟩ => rfl

/-- The projection, entry by entry. -/
theorem project_apply (x : FVec Ideal S8x1024x512 .f32) (w : FVec Ideal S256x512 .f32) (b : FVec Ideal S256 .f32)
    (r : Fin 8) (l : Fin 1024) (d : Fin 256) :
    (project ln x w b (ix3 r l d) : EReal) = (∑ c : Fin 512, feats ln x (ix3 r l c) * w (ix2 d c)) + b (ix1 d) := by
  unfold project
  refine congrArg₂ (fun p q : EReal => p + q) ?_ ?_
  · refine (dot_apply _ _ r l d).trans ?_
    refine Finset.sum_congr rfl fun c _ => ?_
    exact congrArg (fun z : EReal => feats ln x (ix3 r l c) * z) (transpose_ix2_apply _ _ _ _)
  · refine (broadcastInDim_apply _ _ _ _ (ix3 0 0 d) (by intro a; fin_cases a <;> rfl)).trans ?_
    exact broadcastInDim_apply _ _ _ _ (ix1 d) (by intro a; fin_cases a; rfl)

end Cert.Ref
-- ==== Proof.Equal.lean ====
/-
  The kernel's five results are the reference's: each array the kernel leaves, as its description of the arguments gives it,
  is the array the reference's operations compose, entry by entry.
-/
module

public import proofs.«01_k».proof.Proof.Arrays
public import proofs.«01_k».proof.Proof.Rows.Floats
public import proofs.«01_k».proof.Proof.Ref.Mask
public import proofs.«01_k».proof.Proof.Ref.Angles
public import proofs.«01_k».proof.Proof.Ref.Feat

@[expose] public section

set_option maxRecDepth 16384

noncomputable section

namespace Cert.Equal

open Cert.KernelIdeal Cert.KernelIdeal.Gen Cert.KernelIdeal.Run Cert.Words Cert.Pack Cert.Rows
open Idealize.ShloMosaic hiding ix1 ix2 ix3
open Idealize.ShloMosaic.TcCoe
open Idealize.ShloMosaic.ValueIdx

/-- Two arrays that agree at every pair of coordinates are one. -/
theorem ext2 {n k : ℕ} {α : Type} {f g : (⟨2, ![n, k]⟩ : Shape).Idx → α} (h : ∀ a b, f (ix2 a b) = g (ix2 a b)) : f = g :=
  funext fun i => by rw [ValueIdx.eq_ix2 i]; exact h _ _

/-- Two arrays that agree at every triple of coordinates are one. -/
theorem ext3 {n k l : ℕ} {α : Type} {f g : (⟨3, ![n, k, l]⟩ : Shape).Idx → α} (h : ∀ a b c, f (ix3 a b c) = g (ix3 a b c)) : f = g :=
  funext fun i => by rw [ValueIdx.eq_ix3 i]; exact h _ _ _

attribute [local irreducible] starts start src

variable (m : (ℓ : Loc nD τ sig) → Buf (Elt Ideal) ℓ) (d : Dev nD)

/-- The arguments, as the launch finds them. -/
abbrev featArg : FVec Ideal S8x16x64x512 .f32 := m (d, Proc.devRef .tc main_arg0)
abbrev lenArg : IVec S8x16 32 := m (d, Proc.devRef .tc main_arg1)
abbrev weightArg : FVec Ideal S256x512 .f32 := m (d, Proc.devRef .tc main_arg2)
abbrev biasArg : FVec Ideal S256 .f32 := m (d, Proc.devRef .tc main_arg3)

/-- One row of the lengths. -/
abbrev row (t : Fin 8) : Fin 16 → BitVec 32 := fun n => lenArg m d (ix2 t n)

/-- The running sums the main kernel body forms at point `t`. -/
theorem sums_row (t : Fin 8) : sumsAt (W1 m) d t = starts (row m d t) :=
  (sumsAt_eq (W1 m) d t).trans (congrArg (fun z : S8x16.Idx → BitVec 32 => starts fun n => z (ix2 t n)) (W1_len m d))

variable {m d} (h : Cert.Ref.InRange (lenArg m d))
include h

/-- The segment numbers. -/
theorem caps_eq : (W5 m d (Proc.devRef .tc main_v9) : IVec S8x1024 32) = Cert.Ref.caps (lenArg m d) := by
  refine (W5_cap m d).trans (ext2 fun t l => ?_)
  refine Eq.trans ?_ (Cert.Ref.caps_apply h t l).symm
  exact capWord_eq (f := row m d t) (fun _ => h _) l.isLt

/-- The positional array. -/
theorem embed_eq : (W5 m d (Proc.devRef .tc main_v2_1) : FVec Ideal S8x1024x256 .f32) = Cert.Ref.embed (lenArg m d) := by
  refine (W5_pos m d).trans (ext3 fun t l e => ?_)
  refine (row5 (W1 m) d t l e).trans ?_
  rw [sums_row]
  refine (pos_apply (f := row m d t) (fun _ => h _) l e).trans ?_
  refine Eq.trans ?_ (Cert.Ref.embed_apply h t l e).symm
  refine congrArg (fun r : ℝ => (r : EReal)) ?_
  unfold entry Cert.Ref.angle
  rw [Nat.div_div_eq_div_mul]
  by_cases he : e.val % 2 = 0
  · rw [if_pos he, if_pos he]; rfl
  · rw [if_neg he, if_neg he]; rfl

/-- The padding mask. -/
theorem pad_eq : (W5 m d (Proc.devRef .tc main_v10) : IVec S8x1024 1) = Cert.Ref.pad (lenArg m d) := by
  refine (W5_mask m d).trans (ext2 fun t l => ?_)
  refine (shapeCast_apply _ _ (ix2 t l) (ix3 t 0 l) ?_).trans ?_
  · rw [rowMajor_val3 _ 1024 1024 rfl rfl, rowMajor_val2 _ 1024 rfl]
    show t.val * 1024 + 0 * 1024 + l.val = t.val * 1024 + l.val
    omega
  · refine Eq.trans ?_ (Cert.Ref.pad_apply h t l).symm
    show IntOp.cmpi .ne (((dats (W1 m) 0 d).arrAt 6 cfg0.N : S8x1x1024.Idx → BitVec 32) (ix3 t 0 l)) 0#32 = _
    rw [row6, sums_row, mask_apply (f := row m d t) (fun _ => h _) l]
    show IntOp.cmpi .ne (if l.val < start (nums (row m d t)) 16 then 0#32 else 1#32) 0#32
      = if l.val < start (nums (row m d t)) 16 then 0#1 else 1#1
    split <;> rfl

/-- The attention mask. -/
theorem att_eq : (W5 m d (Proc.devRef .tc main_v8) : IVec S8x1024x1024 1) = Cert.Ref.att (lenArg m d) := by
  refine (W5_att m d).trans (ext3 fun t l e => ?_)
  refine Eq.trans ?_ (Cert.Ref.att_apply h t l e).symm
  show IntOp.cmpi .ne (((dats (W1 m) 0 d).arrAt 7 cfg0.N : S8x1024x1024.Idx → BitVec 32) (ix3 t l e)) 0#32 = _
  rw [row7, sums_row, Cert.Rows.att_apply (f := row m d t) (fun _ => h _) l e]
  show IntOp.cmpi .ne (if tag (row m d t) l.val = tag (row m d t) e.val then 0#32 else 1#32) 0#32
    = if tag (row m d t) l.val = tag (row m d t) e.val then 0#1 else 1#1
  split <;> rfl

/-- One row of the projection as the kernel computes it, of the arguments. -/
theorem rowOf_eq (t : Fin 8) (k : Fin 1024) (e : Fin 256) :
    rowOf (iblk (W1 m) d 1 t) (iblk (W1 m) d 2 t) (iblk (W1 m) d 3 t) k e
      = (∑ c : Fin 512, (shapeCast S8x1024x512 (featArg m d) shapeCasts_S8x16x64x512_S8x1024x512 (ix3 t k c) : EReal) * weightArg m d (ix2 e c))
        + biasArg m d (ix1 e) := by
  unfold rowOf
  refine congrArg₂ (fun p q : EReal => p + q) (Finset.sum_congr rfl fun c _ => congrArg₂ (fun p q : EReal => p * q) ?_ ?_) ?_
  · exact (blk1 (W1 m) d t k c).trans (congrFun (W1_feat m d) (ix3 t k c))
  · exact (blk2 (W1 m) d t (ix2 e c)).trans (congrFun (W1_weights m d) (ix2 e c))
  · refine (blk3 (W1 m) d t (ix2 0 e)).trans ((congrFun (W1_bias m d) (ix2 0 e)).trans (shapeCast_apply _ _ (ix2 0 e) (ix1 e) ?_))
    rw [rowMajor_val2 _ 256 rfl, rowMajor_val1]
    show e.val = 0 * 256 + e.val
    omega

/-- The projection, when the bias is zero or every segment is full. -/
theorem project_eq (hb : (∀ i, (biasArg m d i : EReal) = 0) ∨ ∀ i, lenArg m d i = 64#32) :
    (W5 m d (Proc.devRef .tc main_v2_0) : FVec Ideal S8x1024x256 .f32)
      = Cert.Ref.project (lenArg m d) (shapeCast S8x1024x512 (featArg m d) shapeCasts_S8x16x64x512_S8x1024x512) (weightArg m d) (biasArg m d) := by
  refine (W5_proj m d).trans (ext3 fun t l e => ?_)
  refine (row4 (W1 m) d t l e).trans ?_
  rw [sums_row]
  refine (proj_apply (f := row m d t) (fun _ => h _) _ _ _ l e).trans ?_
  refine Eq.trans ?_ (Cert.Ref.project_apply _ _ _ t l e).symm
  by_cases hl : l.val < start (nums (row m d t)) 16
  · refine (dif_pos hl).trans ((rowOf_eq h t _ e).trans ?_)
    refine congrArg (fun p : EReal => p + biasArg m d (ix1 e)) (Finset.sum_congr rfl fun c _ => congrArg (fun p : EReal => p * weightArg m d (ix2 e c)) ?_)
    exact ((Cert.Ref.feats_apply h _ t l c).trans (dif_pos hl)).symm
  · refine (dif_neg hl).trans ?_
    have hz : ∀ c : Fin 512, (Cert.Ref.feats (lenArg m d) (shapeCast S8x1024x512 (featArg m d) shapeCasts_S8x16x64x512_S8x1024x512) (ix3 t l c) : EReal)
        * weightArg m d (ix2 e c) = 0 := fun c => by
      rw [(Cert.Ref.feats_apply h _ t l c).trans (dif_neg hl), zero_mul]
    have hb' : (biasArg m d (ix1 e) : EReal) = 0 := by
      refine hb.elim (fun hb => hb _) fun hf => absurd ?_ hl
      have hs : start (nums (row m d t)) 16 = 1024 := by
        unfold start
        rw [Finset.sum_congr rfl (g := fun _ => 64) fun n _ => by
          show (lenArg m d _).toNat = 64
          rw [hf]; rfl]
        rfl
      rw [hs]; exact l.isLt
    rw [Finset.sum_congr rfl fun c _ => hz c, Finset.sum_const_zero, hb', add_zero]

end Cert.Equal

end
-- ==== Proof.Values.lean ====
/-
  The value claim: under the stated precondition the kernel's five results, at exact arithmetic, are the reference's.
-/
module

public import proofs.«01_k».proof.Defs
public import proofs.«01_k».proof.Proof.Frames
public import proofs.«01_k».proof.Proof.Precond
public import proofs.«01_k».proof.Proof.Equal

@[expose] public section

set_option maxRecDepth 16384

noncomputable section

namespace Cert.Proof

open Idealize.ShloMosaic Idealize.ShloMosaic.TcCoe Idealize.SL.Sem

local instance kernelFacts : Cert.KernelIdeal.Facts := Cert.KernelIdeal.Gen.facts
local instance refFacts : Cert.ReferenceIdeal.Facts := Cert.ReferenceIdeal.Gen.facts
attribute [local instance] preFacts

/-- Under the precondition too the kernel leaves its arguments alone and every counter at zero. -/
theorem frame_ideal_pre : Cert.quiescent_KernelIdeal_pre_lens_in_range := fun m ρ _ => Cert.KernelIdeal.Run.run_args m ρ

/-- Under the precondition too the reference leaves its arguments alone and every counter at zero. -/
theorem frame_reference_pre : Cert.quiescent_ReferenceIdeal_pre_lens_in_range := fun m ρ _ => frame_reference m ρ trivial

section

open Cert.KernelIdeal Cert.KernelIdeal.Run

/-- The kernel run leaves each result at the array the run's description gives it. -/
theorem kernel_results (m : (ℓ : Loc nD τ sig) → Buf (Elt Ideal) ℓ) (g : Dev nD → PrngReg) :
    θ_run (Cert.KernelIdeal.defs (F := Ideal)) (Cert.KernelIdeal.threads (F := Ideal)) ⟨m, fun _ => 0, g⟩ (fun r => ∀ c : Dev nD,
      r.2.mem ((c.tc : Thread nD τ).loc main_v2_0) = W5 m c (Proc.devRef .tc main_v2_0)
      ∧ r.2.mem ((c.tc : Thread nD τ).loc main_v2_1) = W5 m c (Proc.devRef .tc main_v2_1)
      ∧ r.2.mem ((c.tc : Thread nD τ).loc main_v10) = W5 m c (Proc.devRef .tc main_v10)
      ∧ r.2.mem ((c.tc : Thread nD τ).loc main_v8) = W5 m c (Proc.devRef .tc main_v8)
      ∧ r.2.mem ((c.tc : Thread nD τ).loc main_v9) = W5 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := Ideal)) _ _).mono (fun r h c =>
      ⟨h.1 c _ (mem_uc main_v2_0 rfl), h.1 c _ (mem_uc main_v2_1 rfl), h.1 c _ (mem_uc main_v10 rfl), h.1 c _ (mem_uc main_v8 rfl),
        h.1 c _ (mem_uc main_v9 rfl),
        (h.1 c _ (mem_uc main_arg0 rfl)).trans (W5_arg0 m c), (h.1 c _ (mem_uc main_arg1 rfl)).trans (W5_arg1 m c),
        (h.1 c _ (mem_uc main_arg2 rfl)).trans (W5_arg2 m c), (h.1 c _ (mem_uc main_arg3 rfl)).trans (W5_arg3 m c)⟩)
    (run_main m g)

end

/-- The kernel's five results are the reference's. -/
theorem algebraic : Cert.algebraic_KernelIdeal_ReferenceIdeal_pre_lens_in_range := by
  intro m g m' g' hpre hargs
  refine ⟨fun c => Cert.KernelIdeal.Run.W5 m c (Proc.devRef .tc Cert.KernelIdeal.main_v2_0), fun c => Cert.KernelIdeal.Run.W5 m c (Proc.devRef .tc Cert.KernelIdeal.main_v2_1),
    fun c => Cert.KernelIdeal.Run.W5 m c (Proc.devRef .tc Cert.KernelIdeal.main_v10), fun c => Cert.KernelIdeal.Run.W5 m c (Proc.devRef .tc Cert.KernelIdeal.main_v8),
    fun c => Cert.KernelIdeal.Run.W5 m c (Proc.devRef .tc Cert.KernelIdeal.main_v9), kernel_results m g, ?_⟩
  refine (θ_run Cert.ReferenceIdeal.defs _ _).mono (fun r h c => ?_) (Cert.ReferenceIdeal.Value.run (F := Ideal) m' g')
  obtain ⟨h71, h93, h46, h66, h44, h0, h1, h2, h3⟩ := h c
  obtain ⟨e0, e1, e2, e3⟩ := hargs c
  obtain ⟨hr, hb⟩ := pre_says (hpre c)
  refine ⟨?_, ?_, ?_, ?_, ?_, h0, h1, h2, h3⟩
  · refine (h71.trans (Cert.Ref.res_project m' c)).trans ?_
    rw [e0, e1, e2, e3]
    exact (Cert.Equal.project_eq (m := m) (d := c) hr hb).symm
  · refine (h93.trans (Cert.Ref.res_embed m' c)).trans ?_
    rw [e1]
    exact (Cert.Equal.embed_eq (m := m) (d := c) hr).symm
  · refine (h46.trans (show _ = Cert.Ref.pad (m' ((c.tc : Thread _ Cert.ReferenceIdeal.τ).loc Cert.ReferenceIdeal.main_arg1)) from rfl)).trans ?_
    rw [e1]
    exact (Cert.Equal.pad_eq (m := m) (d := c) hr).symm
  · refine (h66.trans (Cert.Ref.res_att m' c)).trans ?_
    rw [e1]
    exact (Cert.Equal.att_eq (m := m) (d := c) hr).symm
  · refine (h44.trans (show _ = Cert.Ref.caps (m' ((c.tc : Thread _ Cert.ReferenceIdeal.τ).loc Cert.ReferenceIdeal.main_arg1)) from rfl)).trans ?_
    rw [e1]
    exact (Cert.Equal.caps_eq (m := m) (d := c) hr).symm

end Cert.Proof

end
-- ==== Proof.lean ====
module

public import proofs.«01_k».proof.Defs
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem

/-- Every claim, together. -/
theorem claim : Cert.Claim :=
  ⟨Cert.Kernel.Gen.facts, Cert.KernelIdeal.Gen.facts, Cert.ReferenceIdeal.Gen.facts, pre_facts,
    frame_kernel, frame_ideal, frame_ideal_pre, frame_reference, frame_reference_pre, preserves, algebraic⟩

end Cert.Proof

end
